-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 2, 4] ![[2], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 1024]⟩ ⟨2, ![4096, 4096]⟩ (Layout.meshBlock [2, 2, 4] ![[], [2]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x1024 : Shape := ⟨2, ![4096, 1024]⟩
abbrev S2x1024x512 : Shape := ⟨3, ![2, 1024, 512]⟩
abbrev S1024x512 : Shape := ⟨2, ![1024, 512]⟩
abbrev S3x1024x512 : Shape := ⟨3, ![3, 1024, 512]⟩
abbrev S2 : Shape := ⟨1, ![2]⟩
abbrev S2x3 : Shape := ⟨2, ![2, 3]⟩
abbrev S_ : Shape := ⟨0, ![]⟩
abbrev S1 : Shape := ⟨1, ![1]⟩
abbrev S1x1 : Shape := ⟨2, ![1, 1]⟩
abbrev S1x1024x512 : Shape := ⟨3, ![1, 1024, 512]⟩

abbrev nBuf : Space → Nat
  | .hbm => 2
  | .vmem => 6
  | .smem => 0
  | _ => 0

abbrev bufTy : (tb : Table) → Fin (tcTables nBuf tb) → BufTy
  | .hbm, ⟨0, _⟩ => ⟨S1x4096x4096, .f32⟩
  | .hbm, ⟨1, _⟩ => ⟨S4096x1024, .f32⟩
  | .local _ .vmem, ⟨0, _⟩ => ⟨S2x1024x512, .f32⟩
  | .local _ .vmem, ⟨1, _⟩ => ⟨S2x1024x512, .f32⟩
  | .local _ .vmem, ⟨2, _⟩ => ⟨S1024x512, .f32⟩
  | .local _ .vmem, ⟨3, _⟩ => ⟨S1024x512, .f32⟩
  | .local _ .vmem, ⟨4, _⟩ => ⟨S3x1024x512, .f32⟩
  | .local _ .vmem, ⟨5, _⟩ => ⟨S3x1024x512, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 3 20 bufScoped semScoped dmaSemScoped tileCredit tileCredit_eq_zero tileCredit_pos).withBarriers [(0, 2)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_78 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_77 : BitVec 32 := 8#32
  let v157 : BitVec 32 := Scalar.muli v2 c8_i32_77
  let v158 : BitVec 32 := Scalar.addi c0_i32_78 v157
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_79 : BitVec 32 := 4#32
  let v159 : BitVec 32 := Scalar.muli v5 c4_i32_79
  let v160 : BitVec 32 := Scalar.addi v158 v159
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_80 : BitVec 32 := 1#32
  let v161 : BitVec 32 := Scalar.muli v30 c1_i32_80
  let v162 : BitVec 32 := Scalar.addi v160 v161
  v162.toNat
def k0_dev2 (d0 : Dev nD) : Nat :=
  let c0_i32_83 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_82 : BitVec 32 := 8#32
  let v163 : BitVec 32 := Scalar.muli v2 c8_i32_82
  let v164 : BitVec 32 := Scalar.addi c0_i32_83 v163
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v165 : BitVec 32 := Scalar.muli v5 c4_i32_84
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_85 : BitVec 32 := 1#32
  let v167 : BitVec 32 := Scalar.muli v19 c1_i32_85
  let v168 : BitVec 32 := Scalar.addi v166 v167
  v168.toNat
def k0_dev3 (d0 : Dev nD) : Nat :=
  let c0_i32_88 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_49 : BitVec 32 := 1#32
  let v100 : BitVec 32 := Scalar.subi v43 c1_i32_49
  let c4_i32_50 : BitVec 32 := 4#32
  let c0_i32_51 : BitVec 32 := 0#32
  let v101 : BitVec 1 := Scalar.cmpi .eq c4_i32_50 c0_i32_51
  let c1_i32_52 : BitVec 32 := 1#32
  let v102 : BitVec 32 := Scalar.select v101 c1_i32_52 c4_i32_50
  let v103 : BitVec 32 := Scalar.remsi v100 v102
  let c0_i32_54 : BitVec 32 := 0#32
  let v105 : BitVec 1 := Scalar.cmpi .slt v103 c0_i32_54
  let c0_i32_55 : BitVec 32 := 0#32
  let v106 : BitVec 1 := Scalar.cmpi .slt v102 c0_i32_55
  let v107 : BitVec 1 := Scalar.xori v105 v106
  let c0_i32_53 : BitVec 32 := 0#32
  let v104 : BitVec 1 := Scalar.cmpi .ne v103 c0_i32_53
  let v108 : BitVec 1 := Scalar.andi v107 v104
  let v109 : BitVec 32 := Scalar.addi v103 v102
  let v110 : BitVec 32 := Scalar.select v108 v109 v103
  let c0_i32_57 : BitVec 32 := 0#32
  let v112 : BitVec 1 := Scalar.cmpi .sgt v110 c0_i32_57
  let v113 : BitVec 32 := Scalar.extui v112
  let c0_i32_58 : BitVec 32 := 0#32
  let v114 : BitVec 1 := Scalar.cmpi .slt v110 c0_i32_58
  let v115 : BitVec 32 := Scalar.extui v114
  let v116 : BitVec 32 := Scalar.subi v113 v115
  let c2_i32_56 : BitVec 32 := 2#32
  let c0_i32_59 : BitVec 32 := 0#32
  let v117 : BitVec 1 := Scalar.cmpi .sgt c2_i32_56 c0_i32_59
  let v118 : BitVec 32 := Scalar.extui v117
  let c0_i32_60 : BitVec 32 := 0#32
  let v119 : BitVec 1 := Scalar.cmpi .slt c2_i32_56 c0_i32_60
  let v120 : BitVec 32 := Scalar.extui v119
  let v121 : BitVec 32 := Scalar.subi v118 v120
  let v122 : BitVec 1 := Scalar.cmpi .ne v116 v121
  let v123 : BitVec 32 := Scalar.remsi v110 c2_i32_56
  let c0_i32_61 : BitVec 32 := 0#32
  let v124 : BitVec 1 := Scalar.cmpi .ne v123 c0_i32_61
  let v125 : BitVec 1 := Scalar.andi v122 v124
  let v111 : BitVec 32 := Scalar.divsi v110 c2_i32_56
  let c1_i32_62 : BitVec 32 := 1#32
  let v126 : BitVec 32 := Scalar.subi v111 c1_i32_62
  let v127 : BitVec 32 := Scalar.select v125 v126 v111
  let c8_i32_87 : BitVec 32 := 8#32
  let v169 : BitVec 32 := Scalar.muli v127 c8_i32_87
  let v170 : BitVec 32 := Scalar.addi c0_i32_88 v169
  let c0_i32_64 : BitVec 32 := 0#32
  let v129 : BitVec 1 := Scalar.cmpi .sgt v110 c0_i32_64
  let v130 : BitVec 32 := Scalar.extui v129
  let c0_i32_65 : BitVec 32 := 0#32
  let v131 : BitVec 1 := Scalar.cmpi .slt v110 c0_i32_65
  let v132 : BitVec 32 := Scalar.extui v131
  let v133 : BitVec 32 := Scalar.subi v130 v132
  let c2_i32_63 : BitVec 32 := 2#32
  let c0_i32_66 : BitVec 32 := 0#32
  let v134 : BitVec 1 := Scalar.cmpi .sgt c2_i32_63 c0_i32_66
  let v135 : BitVec 32 := Scalar.extui v134
  let c0_i32_67 : BitVec 32 := 0#32
  let v136 : BitVec 1 := Scalar.cmpi .slt c2_i32_63 c0_i32_67
  let v137 : BitVec 32 := Scalar.extui v136
  let v138 : BitVec 32 := Scalar.subi v135 v137
  let v139 : BitVec 1 := Scalar.cmpi .ne v133 v138
  let v140 : BitVec 32 := Scalar.remsi v110 c2_i32_63
  let c0_i32_68 : BitVec 32 := 0#32
  let v141 : BitVec 1 := Scalar.cmpi .ne v140 c0_i32_68
  let v142 : BitVec 1 := Scalar.andi v139 v141
  let v128 : BitVec 32 := Scalar.divsi v110 c2_i32_63
  let c1_i32_69 : BitVec 32 := 1#32
  let v143 : BitVec 32 := Scalar.subi v128 c1_i32_69
  let v144 : BitVec 32 := Scalar.select v142 v143 v128
  let v145 : BitVec 32 := Scalar.addi v110 v144
  let c2_i32_70 : BitVec 32 := 2#32
  let c0_i32_71 : BitVec 32 := 0#32
  let v146 : BitVec 1 := Scalar.cmpi .eq c2_i32_70 c0_i32_71
  let c1_i32_72 : BitVec 32 := 1#32
  let v147 : BitVec 32 := Scalar.select v146 c1_i32_72 c2_i32_70
  let v148 : BitVec 32 := Scalar.remsi v145 v147
  let c0_i32_74 : BitVec 32 := 0#32
  let v150 : BitVec 1 := Scalar.cmpi .slt v148 c0_i32_74
  let c0_i32_75 : BitVec 32 := 0#32
  let v151 : BitVec 1 := Scalar.cmpi .slt v147 c0_i32_75
  let v152 : BitVec 1 := Scalar.xori v150 v151
  let c0_i32_73 : BitVec 32 := 0#32
  let v149 : BitVec 1 := Scalar.cmpi .ne v148 c0_i32_73
  let v153 : BitVec 1 := Scalar.andi v152 v149
  let v154 : BitVec 32 := Scalar.addi v148 v147
  let v155 : BitVec 32 := Scalar.select v153 v154 v148
  let c4_i32_89 : BitVec 32 := 4#32
  let v171 : BitVec 32 := Scalar.muli v155 c4_i32_89
  let v172 : BitVec 32 := Scalar.addi v170 v171
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_90 : BitVec 32 := 1#32
  let v173 : BitVec 32 := Scalar.muli v8 c1_i32_90
  let v174 : BitVec 32 := Scalar.addi v172 v173
  v174.toNat
def k0_dev4 (d0 : Dev nD) : Nat :=
  let c0_i32_93 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_22 : BitVec 32 := 1#32
  let v44 : BitVec 32 := Scalar.addi v43 c1_i32_22
  let c4_i32_23 : BitVec 32 := 4#32
  let c0_i32_24 : BitVec 32 := 0#32
  let v45 : BitVec 1 := Scalar.cmpi .eq c4_i32_23 c0_i32_24
  let c1_i32_25 : BitVec 32 := 1#32
  let v46 : BitVec 32 := Scalar.select v45 c1_i32_25 c4_i32_23
  let v47 : BitVec 32 := Scalar.remsi v44 v46
  let c0_i32_27 : BitVec 32 := 0#32
  let v49 : BitVec 1 := Scalar.cmpi .slt v47 c0_i32_27
  let c0_i32_28 : BitVec 32 := 0#32
  let v50 : BitVec 1 := Scalar.cmpi .slt v46 c0_i32_28
  let v51 : BitVec 1 := Scalar.xori v49 v50
  let c0_i32_26 : BitVec 32 := 0#32
  let v48 : BitVec 1 := Scalar.cmpi .ne v47 c0_i32_26
  let v52 : BitVec 1 := Scalar.andi v51 v48
  let v53 : BitVec 32 := Scalar.addi v47 v46
  let v54 : BitVec 32 := Scalar.select v52 v53 v47
  let c0_i32_30 : BitVec 32 := 0#32
  let v56 : BitVec 1 := Scalar.cmpi .sgt v54 c0_i32_30
  let v57 : BitVec 32 := Scalar.extui v56
  let c0_i32_31 : BitVec 32 := 0#32
  let v58 : BitVec 1 := Scalar.cmpi .slt v54 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v54 c2_i32_29
  let c0_i32_34 : BitVec 32 := 0#32
  let v68 : BitVec 1 := Scalar.cmpi .ne v67 c0_i32_34
  let v69 : BitVec 1 := Scalar.andi v66 v68
  let v55 : BitVec 32 := Scalar.divsi v54 c2_i32_29
  let c1_i32_35 : BitVec 32 := 1#32
  let v70 : BitVec 32 := Scalar.subi v55 c1_i32_35
  let v71 : BitVec 32 := Scalar.select v69 v70 v55
  let c8_i32_92 : BitVec 32 := 8#32
  let v175 : BitVec 32 := Scalar.muli v71 c8_i32_92
  let v176 : BitVec 32 := Scalar.addi c0_i32_93 v175
  let c0_i32_37 : BitVec 32 := 0#32
  let v73 : BitVec 1 := Scalar.cmpi .sgt v54 c0_i32_37
  let v74 : BitVec 32 := Scalar.extui v73
  let c0_i32_38 : BitVec 32 := 0#32
  let v75 : BitVec 1 := Scalar.cmpi .slt v54 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v54 c2_i32_36
  let c0_i32_41 : BitVec 32 := 0#32
  let v85 : BitVec 1 := Scalar.cmpi .ne v84 c0_i32_41
  let v86 : BitVec 1 := Scalar.andi v83 v85
  let v72 : BitVec 32 := Scalar.divsi v54 c2_i32_36
  let c1_i32_42 : BitVec 32 := 1#32
  let v87 : BitVec 32 := Scalar.subi v72 c1_i32_42
  let v88 : BitVec 32 := Scalar.select v86 v87 v72
  let v89 : BitVec 32 := Scalar.addi v54 v88
  let c2_i32_43 : BitVec 32 := 2#32
  let c0_i32_44 : BitVec 32 := 0#32
  let v90 : BitVec 1 := Scalar.cmpi .eq c2_i32_43 c0_i32_44
  let c1_i32_45 : BitVec 32 := 1#32
  let v91 : BitVec 32 := Scalar.select v90 c1_i32_45 c2_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c4_i32_94 : BitVec 32 := 4#32
  let v177 : BitVec 32 := Scalar.muli v99 c4_i32_94
  let v178 : BitVec 32 := Scalar.addi v176 v177
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_95 : BitVec 32 := 1#32
  let v179 : BitVec 32 := Scalar.muli v8 c1_i32_95
  let v180 : BitVec 32 := Scalar.addi v178 v179
  v180.toNat
def k0_off1 (d0 : Dev nD) : Fin 3 → Nat :=
  let c0_i32_114 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1024_i32 : BitVec 32 := 1024#32
  let v181 : BitVec 32 := Scalar.muli v43 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_97 : BitVec 32 := 1#32
  let v182 : BitVec 32 := Scalar.subi v8 c1_i32_97
  let c4_i32_98 : BitVec 32 := 4#32
  let c0_i32_99 : BitVec 32 := 0#32
  let v183 : BitVec 1 := Scalar.cmpi .eq c4_i32_98 c0_i32_99
  let c1_i32_100 : BitVec 32 := 1#32
  let v184 : BitVec 32 := Scalar.select v183 c1_i32_100 c4_i32_98
  let v185 : BitVec 32 := Scalar.remsi v182 v184
  let c0_i32_102 : BitVec 32 := 0#32
  let v187 : BitVec 1 := Scalar.cmpi .slt v185 c0_i32_102
  let c0_i32_103 : BitVec 32 := 0#32
  let v188 : BitVec 1 := Scalar.cmpi .slt v184 c0_i32_103
  let v189 : BitVec 1 := Scalar.xori v187 v188
  let c0_i32_101 : BitVec 32 := 0#32
  let v186 : BitVec 1 := Scalar.cmpi .ne v185 c0_i32_101
  let v190 : BitVec 1 := Scalar.andi v189 v186
  let v191 : BitVec 32 := Scalar.addi v185 v184
  let v192 : BitVec 32 := Scalar.select v190 v191 v185
  let c1024_i32_104 : BitVec 32 := 1024#32
  let v193 : BitVec 32 := Scalar.muli v192 c1024_i32_104
  let c0_i32_105 : BitVec 32 := 0#32
  let v194 : BitVec 32 := Scalar.addi v193 c0_i32_105
  ![0, v181.toNat, v194.toNat]
def k0_dev5 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v208 : BitVec 32 := Scalar.muli v2 c8_i32_119
  let v209 : BitVec 32 := Scalar.addi c0_i32_120 v208
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_121 : BitVec 32 := 4#32
  let v210 : BitVec 32 := Scalar.muli v5 c4_i32_121
  let v211 : BitVec 32 := Scalar.addi v209 v210
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_122 : BitVec 32 := 1#32
  let v212 : BitVec 32 := Scalar.muli v19 c1_i32_122
  let v213 : BitVec 32 := Scalar.addi v211 v212
  v213.toNat
def k0_off2 (d0 : Dev nD) : Fin 3 → Nat :=
  let c0_i32_125 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1024_i32 : BitVec 32 := 1024#32
  let v181 : BitVec 32 := Scalar.muli v43 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_106 : BitVec 32 := 1#32
  let v195 : BitVec 32 := Scalar.addi v8 c1_i32_106
  let c4_i32_107 : BitVec 32 := 4#32
  let c0_i32_108 : BitVec 32 := 0#32
  let v196 : BitVec 1 := Scalar.cmpi .eq c4_i32_107 c0_i32_108
  let c1_i32_109 : BitVec 32 := 1#32
  let v197 : BitVec 32 := Scalar.select v196 c1_i32_109 c4_i32_107
  let v198 : BitVec 32 := Scalar.remsi v195 v197
  let c0_i32_111 : BitVec 32 := 0#32
  let v200 : BitVec 1 := Scalar.cmpi .slt v198 c0_i32_111
  let c0_i32_112 : BitVec 32 := 0#32
  let v201 : BitVec 1 := Scalar.cmpi .slt v197 c0_i32_112
  let v202 : BitVec 1 := Scalar.xori v200 v201
  let c0_i32_110 : BitVec 32 := 0#32
  let v199 : BitVec 1 := Scalar.cmpi .ne v198 c0_i32_110
  let v203 : BitVec 1 := Scalar.andi v202 v199
  let v204 : BitVec 32 := Scalar.addi v198 v197
  let v205 : BitVec 32 := Scalar.select v203 v204 v198
  let c1024_i32_113 : BitVec 32 := 1024#32
  let v206 : BitVec 32 := Scalar.muli v205 c1024_i32_113
  let c512_i32 : BitVec 32 := 512#32
  let v207 : BitVec 32 := Scalar.addi v206 c512_i32
  ![0, v181.toNat, v207.toNat]
def k0_dev6 (d0 : Dev nD) : Nat :=
  let c0_i32_131 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_130 : BitVec 32 := 8#32
  let v222 : BitVec 32 := Scalar.muli v2 c8_i32_130
  let v223 : BitVec 32 := Scalar.addi c0_i32_131 v222
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_132 : BitVec 32 := 4#32
  let v224 : BitVec 32 := Scalar.muli v5 c4_i32_132
  let v225 : BitVec 32 := Scalar.addi v223 v224
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_133 : BitVec 32 := 1#32
  let v226 : BitVec 32 := Scalar.muli v30 c1_i32_133
  let v227 : BitVec 32 := Scalar.addi v225 v226
  v227.toNat
def k0_off3 (d0 : Dev nD) (c0_i32_136 : BitVec 32) : Fin 3 → Nat :=
  let c0_i32_145 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1024_i32 : BitVec 32 := 1024#32
  let v181 : BitVec 32 := Scalar.muli v43 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v236 : BitVec 32 := Scalar.subi v8 c0_i32_136
  let c2_i32_137 : BitVec 32 := 2#32
  let v237 : BitVec 32 := Scalar.subi v236 c2_i32_137
  let c4_i32_138 : BitVec 32 := 4#32
  let c0_i32_139 : BitVec 32 := 0#32
  let v238 : BitVec 1 := Scalar.cmpi .eq c4_i32_138 c0_i32_139
  let c1_i32_140 : BitVec 32 := 1#32
  let v239 : BitVec 32 := Scalar.select v238 c1_i32_140 c4_i32_138
  let v240 : BitVec 32 := Scalar.remsi v237 v239
  let c0_i32_142 : BitVec 32 := 0#32
  let v242 : BitVec 1 := Scalar.cmpi .slt v240 c0_i32_142
  let c0_i32_143 : BitVec 32 := 0#32
  let v243 : BitVec 1 := Scalar.cmpi .slt v239 c0_i32_143
  let v244 : BitVec 1 := Scalar.xori v242 v243
  let c0_i32_141 : BitVec 32 := 0#32
  let v241 : BitVec 1 := Scalar.cmpi .ne v240 c0_i32_141
  let v245 : BitVec 1 := Scalar.andi v244 v241
  let v246 : BitVec 32 := Scalar.addi v240 v239
  let v247 : BitVec 32 := Scalar.select v245 v246 v240
  let c1024_i32_144 : BitVec 32 := 1024#32
  let v248 : BitVec 32 := Scalar.muli v247 c1024_i32_144
  ![0, v181.toNat, v248.toNat]
def k0_off4 (d0 : Dev nD) (c0_i32_147 : BitVec 32) : Fin 3 → Nat :=
  let c0_i32_157 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1024_i32 : BitVec 32 := 1024#32
  let v181 : BitVec 32 := Scalar.muli v43 c1024_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v253 : BitVec 32 := Scalar.addi v8 c0_i32_147
  let c2_i32_148 : BitVec 32 := 2#32
  let v254 : BitVec 32 := Scalar.addi v253 c2_i32_148
  let c4_i32_149 : BitVec 32 := 4#32
  let c0_i32_150 : BitVec 32 := 0#32
  let v255 : BitVec 1 := Scalar.cmpi .eq c4_i32_149 c0_i32_150
  let c1_i32_151 : BitVec 32 := 1#32
  let v256 : BitVec 32 := Scalar.select v255 c1_i32_151 c4_i32_149
  let v257 : BitVec 32 := Scalar.remsi v254 v256
  let c0_i32_153 : BitVec 32 := 0#32
  let v259 : BitVec 1 := Scalar.cmpi .slt v257 c0_i32_153
  let c0_i32_154 : BitVec 32 := 0#32
  let v260 : BitVec 1 := Scalar.cmpi .slt v256 c0_i32_154
  let v261 : BitVec 1 := Scalar.xori v259 v260
  let c0_i32_152 : BitVec 32 := 0#32
  let v258 : BitVec 1 := Scalar.cmpi .ne v257 c0_i32_152
  let v262 : BitVec 1 := Scalar.andi v261 v258
  let v263 : BitVec 32 := Scalar.addi v257 v256
  let v264 : BitVec 32 := Scalar.select v262 v263 v257
  let c1024_i32_155 : BitVec 32 := 1024#32
  let v265 : BitVec 32 := Scalar.muli v264 c1024_i32_155
  let c512_i32_156 : BitVec 32 := 512#32
  let v266 : BitVec 32 := Scalar.addi v265 c512_i32_156
  ![0, v181.toNat, v266.toNat]
def k0_dev7 (d0 : Dev nD) : Nat :=
  let c0_i32_193 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_192 : BitVec 32 := 8#32
  let v300 : BitVec 32 := Scalar.muli v2 c8_i32_192
  let v301 : BitVec 32 := Scalar.addi c0_i32_193 v300
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v302 : BitVec 32 := Scalar.muli v5 c4_i32_194
  let v303 : BitVec 32 := Scalar.addi v301 v302
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_195 : BitVec 32 := 1#32
  let v304 : BitVec 32 := Scalar.muli v19 c1_i32_195
  let v305 : BitVec 32 := Scalar.addi v303 v304
  v305.toNat
def k0_dev8 (d0 : Dev nD) : Nat :=
  let c0_i32_235 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_234 : BitVec 32 := 8#32
  let v343 : BitVec 32 := Scalar.muli v2 c8_i32_234
  let v344 : BitVec 32 := Scalar.addi c0_i32_235 v343
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_236 : BitVec 32 := 4#32
  let v345 : BitVec 32 := Scalar.muli v5 c4_i32_236
  let v346 : BitVec 32 := Scalar.addi v344 v345
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_237 : BitVec 32 := 1#32
  let v347 : BitVec 32 := Scalar.muli v30 c1_i32_237
  let v348 : BitVec 32 := Scalar.addi v346 v347
  v348.toNat
def k0_dev9 (d0 : Dev nD) : Nat :=
  let c0_i32_300 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_299 : BitVec 32 := 8#32
  let v423 : BitVec 32 := Scalar.muli v2 c8_i32_299
  let v424 : BitVec 32 := Scalar.addi c0_i32_300 v423
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v425 : BitVec 32 := Scalar.muli v5 c4_i32_301
  let v426 : BitVec 32 := Scalar.addi v424 v425
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_302 : BitVec 32 := 1#32
  let v427 : BitVec 32 := Scalar.muli v30 c1_i32_302
  let v428 : BitVec 32 := Scalar.addi v426 v427
  v428.toNat
def k0_dev10 (d0 : Dev nD) : Nat :=
  let c0_i32_312 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_311 : BitVec 32 := 8#32
  let v431 : BitVec 32 := Scalar.muli v2 c8_i32_311
  let v432 : BitVec 32 := Scalar.addi c0_i32_312 v431
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_313 : BitVec 32 := 4#32
  let v433 : BitVec 32 := Scalar.muli v5 c4_i32_313
  let v434 : BitVec 32 := Scalar.addi v432 v433
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_314 : BitVec 32 := 1#32
  let v435 : BitVec 32 := Scalar.muli v19 c1_i32_314
  let v436 : BitVec 32 := Scalar.addi v434 v435
  v436.toNat
def k0_dev11 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v476 : BitVec 32 := Scalar.muli v2 c8_i32_354
  let v477 : BitVec 32 := Scalar.addi c0_i32_355 v476
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v478 : BitVec 32 := Scalar.muli v5 c4_i32_356
  let v479 : BitVec 32 := Scalar.addi v477 v478
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_357 : BitVec 32 := 1#32
  let v480 : BitVec 32 := Scalar.muli v19 c1_i32_357
  let v481 : BitVec 32 := Scalar.addi v479 v480
  v481.toNat
def k0_dev12 (d0 : Dev nD) : Nat :=
  let c0_i32_367 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_366 : BitVec 32 := 8#32
  let v484 : BitVec 32 := Scalar.muli v2 c8_i32_366
  let v485 : BitVec 32 := Scalar.addi c0_i32_367 v484
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_368 : BitVec 32 := 4#32
  let v486 : BitVec 32 := Scalar.muli v5 c4_i32_368
  let v487 : BitVec 32 := Scalar.addi v485 v486
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_369 : BitVec 32 := 1#32
  let v488 : BitVec 32 := Scalar.muli v30 c1_i32_369
  let v489 : BitVec 32 := Scalar.addi v487 v488
  v489.toNat
def k0_dev13 (d0 : Dev nD) : Nat :=
  let c0_i32_469 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_22 : BitVec 32 := 1#32
  let v44 : BitVec 32 := Scalar.addi v43 c1_i32_22
  let c4_i32_23 : BitVec 32 := 4#32
  let c0_i32_24 : BitVec 32 := 0#32
  let v45 : BitVec 1 := Scalar.cmpi .eq c4_i32_23 c0_i32_24
  let c1_i32_25 : BitVec 32 := 1#32
  let v46 : BitVec 32 := Scalar.select v45 c1_i32_25 c4_i32_23
  let v47 : BitVec 32 := Scalar.remsi v44 v46
  let c0_i32_27 : BitVec 32 := 0#32
  let v49 : BitVec 1 := Scalar.cmpi .slt v47 c0_i32_27
  let c0_i32_28 : BitVec 32 := 0#32
  let v50 : BitVec 1 := Scalar.cmpi .slt v46 c0_i32_28
  let v51 : BitVec 1 := Scalar.xori v49 v50
  let c0_i32_26 : BitVec 32 := 0#32
  let v48 : BitVec 1 := Scalar.cmpi .ne v47 c0_i32_26
  let v52 : BitVec 1 := Scalar.andi v51 v48
  let v53 : BitVec 32 := Scalar.addi v47 v46
  let v54 : BitVec 32 := Scalar.select v52 v53 v47
  let c0_i32_30 : BitVec 32 := 0#32
  let v56 : BitVec 1 := Scalar.cmpi .sgt v54 c0_i32_30
  let v57 : BitVec 32 := Scalar.extui v56
  let c0_i32_31 : BitVec 32 := 0#32
  let v58 : BitVec 1 := Scalar.cmpi .slt v54 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v54 c2_i32_29
  let c0_i32_34 : BitVec 32 := 0#32
  let v68 : BitVec 1 := Scalar.cmpi .ne v67 c0_i32_34
  let v69 : BitVec 1 := Scalar.andi v66 v68
  let v55 : BitVec 32 := Scalar.divsi v54 c2_i32_29
  let c1_i32_35 : BitVec 32 := 1#32
  let v70 : BitVec 32 := Scalar.subi v55 c1_i32_35
  let v71 : BitVec 32 := Scalar.select v69 v70 v55
  let c8_i32_468 : BitVec 32 := 8#32
  let v591 : BitVec 32 := Scalar.muli v71 c8_i32_468
  let v592 : BitVec 32 := Scalar.addi c0_i32_469 v591
  let c0_i32_37 : BitVec 32 := 0#32
  let v73 : BitVec 1 := Scalar.cmpi .sgt v54 c0_i32_37
  let v74 : BitVec 32 := Scalar.extui v73
  let c0_i32_38 : BitVec 32 := 0#32
  let v75 : BitVec 1 := Scalar.cmpi .slt v54 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v54 c2_i32_36
  let c0_i32_41 : BitVec 32 := 0#32
  let v85 : BitVec 1 := Scalar.cmpi .ne v84 c0_i32_41
  let v86 : BitVec 1 := Scalar.andi v83 v85
  let v72 : BitVec 32 := Scalar.divsi v54 c2_i32_36
  let c1_i32_42 : BitVec 32 := 1#32
  let v87 : BitVec 32 := Scalar.subi v72 c1_i32_42
  let v88 : BitVec 32 := Scalar.select v86 v87 v72
  let v89 : BitVec 32 := Scalar.addi v54 v88
  let c2_i32_43 : BitVec 32 := 2#32
  let c0_i32_44 : BitVec 32 := 0#32
  let v90 : BitVec 1 := Scalar.cmpi .eq c2_i32_43 c0_i32_44
  let c1_i32_45 : BitVec 32 := 1#32
  let v91 : BitVec 32 := Scalar.select v90 c1_i32_45 c2_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c4_i32_470 : BitVec 32 := 4#32
  let v593 : BitVec 32 := Scalar.muli v99 c4_i32_470
  let v594 : BitVec 32 := Scalar.addi v592 v593
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_471 : BitVec 32 := 1#32
  let v595 : BitVec 32 := Scalar.muli v8 c1_i32_471
  let v596 : BitVec 32 := Scalar.addi v594 v595
  v596.toNat
def k0_dev14 (d0 : Dev nD) : Nat :=
  let c0_i32_482 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_49 : BitVec 32 := 1#32
  let v100 : BitVec 32 := Scalar.subi v43 c1_i32_49
  let c4_i32_50 : BitVec 32 := 4#32
  let c0_i32_51 : BitVec 32 := 0#32
  let v101 : BitVec 1 := Scalar.cmpi .eq c4_i32_50 c0_i32_51
  let c1_i32_52 : BitVec 32 := 1#32
  let v102 : BitVec 32 := Scalar.select v101 c1_i32_52 c4_i32_50
  let v103 : BitVec 32 := Scalar.remsi v100 v102
  let c0_i32_54 : BitVec 32 := 0#32
  let v105 : BitVec 1 := Scalar.cmpi .slt v103 c0_i32_54
  let c0_i32_55 : BitVec 32 := 0#32
  let v106 : BitVec 1 := Scalar.cmpi .slt v102 c0_i32_55
  let v107 : BitVec 1 := Scalar.xori v105 v106
  let c0_i32_53 : BitVec 32 := 0#32
  let v104 : BitVec 1 := Scalar.cmpi .ne v103 c0_i32_53
  let v108 : BitVec 1 := Scalar.andi v107 v104
  let v109 : BitVec 32 := Scalar.addi v103 v102
  let v110 : BitVec 32 := Scalar.select v108 v109 v103
  let c0_i32_57 : BitVec 32 := 0#32
  let v112 : BitVec 1 := Scalar.cmpi .sgt v110 c0_i32_57
  let v113 : BitVec 32 := Scalar.extui v112
  let c0_i32_58 : BitVec 32 := 0#32
  let v114 : BitVec 1 := Scalar.cmpi .slt v110 c0_i32_58
  let v115 : BitVec 32 := Scalar.extui v114
  let v116 : BitVec 32 := Scalar.subi v113 v115
  let c2_i32_56 : BitVec 32 := 2#32
  let c0_i32_59 : BitVec 32 := 0#32
  let v117 : BitVec 1 := Scalar.cmpi .sgt c2_i32_56 c0_i32_59
  let v118 : BitVec 32 := Scalar.extui v117
  let c0_i32_60 : BitVec 32 := 0#32
  let v119 : BitVec 1 := Scalar.cmpi .slt c2_i32_56 c0_i32_60
  let v120 : BitVec 32 := Scalar.extui v119
  let v121 : BitVec 32 := Scalar.subi v118 v120
  let v122 : BitVec 1 := Scalar.cmpi .ne v116 v121
  let v123 : BitVec 32 := Scalar.remsi v110 c2_i32_56
  let c0_i32_61 : BitVec 32 := 0#32
  let v124 : BitVec 1 := Scalar.cmpi .ne v123 c0_i32_61
  let v125 : BitVec 1 := Scalar.andi v122 v124
  let v111 : BitVec 32 := Scalar.divsi v110 c2_i32_56
  let c1_i32_62 : BitVec 32 := 1#32
  let v126 : BitVec 32 := Scalar.subi v111 c1_i32_62
  let v127 : BitVec 32 := Scalar.select v125 v126 v111
  let c8_i32_481 : BitVec 32 := 8#32
  let v605 : BitVec 32 := Scalar.muli v127 c8_i32_481
  let v606 : BitVec 32 := Scalar.addi c0_i32_482 v605
  let c0_i32_64 : BitVec 32 := 0#32
  let v129 : BitVec 1 := Scalar.cmpi .sgt v110 c0_i32_64
  let v130 : BitVec 32 := Scalar.extui v129
  let c0_i32_65 : BitVec 32 := 0#32
  let v131 : BitVec 1 := Scalar.cmpi .slt v110 c0_i32_65
  let v132 : BitVec 32 := Scalar.extui v131
  let v133 : BitVec 32 := Scalar.subi v130 v132
  let c2_i32_63 : BitVec 32 := 2#32
  let c0_i32_66 : BitVec 32 := 0#32
  let v134 : BitVec 1 := Scalar.cmpi .sgt c2_i32_63 c0_i32_66
  let v135 : BitVec 32 := Scalar.extui v134
  let c0_i32_67 : BitVec 32 := 0#32
  let v136 : BitVec 1 := Scalar.cmpi .slt c2_i32_63 c0_i32_67
  let v137 : BitVec 32 := Scalar.extui v136
  let v138 : BitVec 32 := Scalar.subi v135 v137
  let v139 : BitVec 1 := Scalar.cmpi .ne v133 v138
  let v140 : BitVec 32 := Scalar.remsi v110 c2_i32_63
  let c0_i32_68 : BitVec 32 := 0#32
  let v141 : BitVec 1 := Scalar.cmpi .ne v140 c0_i32_68
  let v142 : BitVec 1 := Scalar.andi v139 v141
  let v128 : BitVec 32 := Scalar.divsi v110 c2_i32_63
  let c1_i32_69 : BitVec 32 := 1#32
  let v143 : BitVec 32 := Scalar.subi v128 c1_i32_69
  let v144 : BitVec 32 := Scalar.select v142 v143 v128
  let v145 : BitVec 32 := Scalar.addi v110 v144
  let c2_i32_70 : BitVec 32 := 2#32
  let c0_i32_71 : BitVec 32 := 0#32
  let v146 : BitVec 1 := Scalar.cmpi .eq c2_i32_70 c0_i32_71
  let c1_i32_72 : BitVec 32 := 1#32
  let v147 : BitVec 32 := Scalar.select v146 c1_i32_72 c2_i32_70
  let v148 : BitVec 32 := Scalar.remsi v145 v147
  let c0_i32_74 : BitVec 32 := 0#32
  let v150 : BitVec 1 := Scalar.cmpi .slt v148 c0_i32_74
  let c0_i32_75 : BitVec 32 := 0#32
  let v151 : BitVec 1 := Scalar.cmpi .slt v147 c0_i32_75
  let v152 : BitVec 1 := Scalar.xori v150 v151
  let c0_i32_73 : BitVec 32 := 0#32
  let v149 : BitVec 1 := Scalar.cmpi .ne v148 c0_i32_73
  let v153 : BitVec 1 := Scalar.andi v152 v149
  let v154 : BitVec 32 := Scalar.addi v148 v147
  let v155 : BitVec 32 := Scalar.select v153 v154 v148
  let c4_i32_483 : BitVec 32 := 4#32
  let v607 : BitVec 32 := Scalar.muli v155 c4_i32_483
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v609 : BitVec 32 := Scalar.muli v8 c1_i32_484
  let v610 : BitVec 32 := Scalar.addi v608 v609
  v610.toNat
def k0_off5 (d0 : Dev nD) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1024_i32_489 : BitVec 32 := 1024#32
  let v619 : BitVec 32 := Scalar.muli v43 c1024_i32_489
  let c0_i32_492 : BitVec 32 := 0#32
  ![v619.toNat, 0]
def k0_off6 (d0 : Dev nD) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1024_i32_495 : BitVec 32 := 1024#32
  let v625 : BitVec 32 := Scalar.muli v43 c1024_i32_495
  let c512_i32_498 : BitVec 32 := 512#32
  ![v625.toNat, 512]
def k0_dev15 (d0 : Dev nD) : Nat :=
  let c0_i32_530 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_22 : BitVec 32 := 1#32
  let v44 : BitVec 32 := Scalar.addi v43 c1_i32_22
  let c4_i32_23 : BitVec 32 := 4#32
  let c0_i32_24 : BitVec 32 := 0#32
  let v45 : BitVec 1 := Scalar.cmpi .eq c4_i32_23 c0_i32_24
  let c1_i32_25 : BitVec 32 := 1#32
  let v46 : BitVec 32 := Scalar.select v45 c1_i32_25 c4_i32_23
  let v47 : BitVec 32 := Scalar.remsi v44 v46
  let c0_i32_27 : BitVec 32 := 0#32
  let v49 : BitVec 1 := Scalar.cmpi .slt v47 c0_i32_27
  let c0_i32_28 : BitVec 32 := 0#32
  let v50 : BitVec 1 := Scalar.cmpi .slt v46 c0_i32_28
  let v51 : BitVec 1 := Scalar.xori v49 v50
  let c0_i32_26 : BitVec 32 := 0#32
  let v48 : BitVec 1 := Scalar.cmpi .ne v47 c0_i32_26
  let v52 : BitVec 1 := Scalar.andi v51 v48
  let v53 : BitVec 32 := Scalar.addi v47 v46
  let v54 : BitVec 32 := Scalar.select v52 v53 v47
  let c0_i32_30 : BitVec 32 := 0#32
  let v56 : BitVec 1 := Scalar.cmpi .sgt v54 c0_i32_30
  let v57 : BitVec 32 := Scalar.extui v56
  let c0_i32_31 : BitVec 32 := 0#32
  let v58 : BitVec 1 := Scalar.cmpi .slt v54 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v54 c2_i32_29
  let c0_i32_34 : BitVec 32 := 0#32
  let v68 : BitVec 1 := Scalar.cmpi .ne v67 c0_i32_34
  let v69 : BitVec 1 := Scalar.andi v66 v68
  let v55 : BitVec 32 := Scalar.divsi v54 c2_i32_29
  let c1_i32_35 : BitVec 32 := 1#32
  let v70 : BitVec 32 := Scalar.subi v55 c1_i32_35
  let v71 : BitVec 32 := Scalar.select v69 v70 v55
  let c8_i32_529 : BitVec 32 := 8#32
  let v649 : BitVec 32 := Scalar.muli v71 c8_i32_529
  let v650 : BitVec 32 := Scalar.addi c0_i32_530 v649
  let c0_i32_37 : BitVec 32 := 0#32
  let v73 : BitVec 1 := Scalar.cmpi .sgt v54 c0_i32_37
  let v74 : BitVec 32 := Scalar.extui v73
  let c0_i32_38 : BitVec 32 := 0#32
  let v75 : BitVec 1 := Scalar.cmpi .slt v54 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v54 c2_i32_36
  let c0_i32_41 : BitVec 32 := 0#32
  let v85 : BitVec 1 := Scalar.cmpi .ne v84 c0_i32_41
  let v86 : BitVec 1 := Scalar.andi v83 v85
  let v72 : BitVec 32 := Scalar.divsi v54 c2_i32_36
  let c1_i32_42 : BitVec 32 := 1#32
  let v87 : BitVec 32 := Scalar.subi v72 c1_i32_42
  let v88 : BitVec 32 := Scalar.select v86 v87 v72
  let v89 : BitVec 32 := Scalar.addi v54 v88
  let c2_i32_43 : BitVec 32 := 2#32
  let c0_i32_44 : BitVec 32 := 0#32
  let v90 : BitVec 1 := Scalar.cmpi .eq c2_i32_43 c0_i32_44
  let c1_i32_45 : BitVec 32 := 1#32
  let v91 : BitVec 32 := Scalar.select v90 c1_i32_45 c2_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c4_i32_531 : BitVec 32 := 4#32
  let v651 : BitVec 32 := Scalar.muli v99 c4_i32_531
  let v652 : BitVec 32 := Scalar.addi v650 v651
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_532 : BitVec 32 := 1#32
  let v653 : BitVec 32 := Scalar.muli v8 c1_i32_532
  let v654 : BitVec 32 := Scalar.addi v652 v653
  v654.toNat
def k0_off7 (d0 : Dev nD) (c0_i32_537 : BitVec 32) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let v663 : BitVec 32 := Scalar.subi v43 c0_i32_537
  let c1_i32_538 : BitVec 32 := 1#32
  let v664 : BitVec 32 := Scalar.subi v663 c1_i32_538
  let c4_i32_539 : BitVec 32 := 4#32
  let c0_i32_540 : BitVec 32 := 0#32
  let v665 : BitVec 1 := Scalar.cmpi .eq c4_i32_539 c0_i32_540
  let c1_i32_541 : BitVec 32 := 1#32
  let v666 : BitVec 32 := Scalar.select v665 c1_i32_541 c4_i32_539
  let v667 : BitVec 32 := Scalar.remsi v664 v666
  let c0_i32_543 : BitVec 32 := 0#32
  let v669 : BitVec 1 := Scalar.cmpi .slt v667 c0_i32_543
  let c0_i32_544 : BitVec 32 := 0#32
  let v670 : BitVec 1 := Scalar.cmpi .slt v666 c0_i32_544
  let v671 : BitVec 1 := Scalar.xori v669 v670
  let c0_i32_542 : BitVec 32 := 0#32
  let v668 : BitVec 1 := Scalar.cmpi .ne v667 c0_i32_542
  let v672 : BitVec 1 := Scalar.andi v671 v668
  let v673 : BitVec 32 := Scalar.addi v667 v666
  let v674 : BitVec 32 := Scalar.select v672 v673 v667
  let c1024_i32_545 : BitVec 32 := 1024#32
  let v675 : BitVec 32 := Scalar.muli v674 c1024_i32_545
  let c0_i32_548 : BitVec 32 := 0#32
  ![v675.toNat, 0]
def k0_dev16 (d0 : Dev nD) : Nat :=
  let c0_i32_580 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_49 : BitVec 32 := 1#32
  let v100 : BitVec 32 := Scalar.subi v43 c1_i32_49
  let c4_i32_50 : BitVec 32 := 4#32
  let c0_i32_51 : BitVec 32 := 0#32
  let v101 : BitVec 1 := Scalar.cmpi .eq c4_i32_50 c0_i32_51
  let c1_i32_52 : BitVec 32 := 1#32
  let v102 : BitVec 32 := Scalar.select v101 c1_i32_52 c4_i32_50
  let v103 : BitVec 32 := Scalar.remsi v100 v102
  let c0_i32_54 : BitVec 32 := 0#32
  let v105 : BitVec 1 := Scalar.cmpi .slt v103 c0_i32_54
  let c0_i32_55 : BitVec 32 := 0#32
  let v106 : BitVec 1 := Scalar.cmpi .slt v102 c0_i32_55
  let v107 : BitVec 1 := Scalar.xori v105 v106
  let c0_i32_53 : BitVec 32 := 0#32
  let v104 : BitVec 1 := Scalar.cmpi .ne v103 c0_i32_53
  let v108 : BitVec 1 := Scalar.andi v107 v104
  let v109 : BitVec 32 := Scalar.addi v103 v102
  let v110 : BitVec 32 := Scalar.select v108 v109 v103
  let c0_i32_57 : BitVec 32 := 0#32
  let v112 : BitVec 1 := Scalar.cmpi .sgt v110 c0_i32_57
  let v113 : BitVec 32 := Scalar.extui v112
  let c0_i32_58 : BitVec 32 := 0#32
  let v114 : BitVec 1 := Scalar.cmpi .slt v110 c0_i32_58
  let v115 : BitVec 32 := Scalar.extui v114
  let v116 : BitVec 32 := Scalar.subi v113 v115
  let c2_i32_56 : BitVec 32 := 2#32
  let c0_i32_59 : BitVec 32 := 0#32
  let v117 : BitVec 1 := Scalar.cmpi .sgt c2_i32_56 c0_i32_59
  let v118 : BitVec 32 := Scalar.extui v117
  let c0_i32_60 : BitVec 32 := 0#32
  let v119 : BitVec 1 := Scalar.cmpi .slt c2_i32_56 c0_i32_60
  let v120 : BitVec 32 := Scalar.extui v119
  let v121 : BitVec 32 := Scalar.subi v118 v120
  let v122 : BitVec 1 := Scalar.cmpi .ne v116 v121
  let v123 : BitVec 32 := Scalar.remsi v110 c2_i32_56
  let c0_i32_61 : BitVec 32 := 0#32
  let v124 : BitVec 1 := Scalar.cmpi .ne v123 c0_i32_61
  let v125 : BitVec 1 := Scalar.andi v122 v124
  let v111 : BitVec 32 := Scalar.divsi v110 c2_i32_56
  let c1_i32_62 : BitVec 32 := 1#32
  let v126 : BitVec 32 := Scalar.subi v111 c1_i32_62
  let v127 : BitVec 32 := Scalar.select v125 v126 v111
  let c8_i32_579 : BitVec 32 := 8#32
  let v699 : BitVec 32 := Scalar.muli v127 c8_i32_579
  let v700 : BitVec 32 := Scalar.addi c0_i32_580 v699
  let c0_i32_64 : BitVec 32 := 0#32
  let v129 : BitVec 1 := Scalar.cmpi .sgt v110 c0_i32_64
  let v130 : BitVec 32 := Scalar.extui v129
  let c0_i32_65 : BitVec 32 := 0#32
  let v131 : BitVec 1 := Scalar.cmpi .slt v110 c0_i32_65
  let v132 : BitVec 32 := Scalar.extui v131
  let v133 : BitVec 32 := Scalar.subi v130 v132
  let c2_i32_63 : BitVec 32 := 2#32
  let c0_i32_66 : BitVec 32 := 0#32
  let v134 : BitVec 1 := Scalar.cmpi .sgt c2_i32_63 c0_i32_66
  let v135 : BitVec 32 := Scalar.extui v134
  let c0_i32_67 : BitVec 32 := 0#32
  let v136 : BitVec 1 := Scalar.cmpi .slt c2_i32_63 c0_i32_67
  let v137 : BitVec 32 := Scalar.extui v136
  let v138 : BitVec 32 := Scalar.subi v135 v137
  let v139 : BitVec 1 := Scalar.cmpi .ne v133 v138
  let v140 : BitVec 32 := Scalar.remsi v110 c2_i32_63
  let c0_i32_68 : BitVec 32 := 0#32
  let v141 : BitVec 1 := Scalar.cmpi .ne v140 c0_i32_68
  let v142 : BitVec 1 := Scalar.andi v139 v141
  let v128 : BitVec 32 := Scalar.divsi v110 c2_i32_63
  let c1_i32_69 : BitVec 32 := 1#32
  let v143 : BitVec 32 := Scalar.subi v128 c1_i32_69
  let v144 : BitVec 32 := Scalar.select v142 v143 v128
  let v145 : BitVec 32 := Scalar.addi v110 v144
  let c2_i32_70 : BitVec 32 := 2#32
  let c0_i32_71 : BitVec 32 := 0#32
  let v146 : BitVec 1 := Scalar.cmpi .eq c2_i32_70 c0_i32_71
  let c1_i32_72 : BitVec 32 := 1#32
  let v147 : BitVec 32 := Scalar.select v146 c1_i32_72 c2_i32_70
  let v148 : BitVec 32 := Scalar.remsi v145 v147
  let c0_i32_74 : BitVec 32 := 0#32
  let v150 : BitVec 1 := Scalar.cmpi .slt v148 c0_i32_74
  let c0_i32_75 : BitVec 32 := 0#32
  let v151 : BitVec 1 := Scalar.cmpi .slt v147 c0_i32_75
  let v152 : BitVec 1 := Scalar.xori v150 v151
  let c0_i32_73 : BitVec 32 := 0#32
  let v149 : BitVec 1 := Scalar.cmpi .ne v148 c0_i32_73
  let v153 : BitVec 1 := Scalar.andi v152 v149
  let v154 : BitVec 32 := Scalar.addi v148 v147
  let v155 : BitVec 32 := Scalar.select v153 v154 v148
  let c4_i32_581 : BitVec 32 := 4#32
  let v701 : BitVec 32 := Scalar.muli v155 c4_i32_581
  let v702 : BitVec 32 := Scalar.addi v700 v701
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_582 : BitVec 32 := 1#32
  let v703 : BitVec 32 := Scalar.muli v8 c1_i32_582
  let v704 : BitVec 32 := Scalar.addi v702 v703
  v704.toNat
def k0_off8 (d0 : Dev nD) (c0_i32_587 : BitVec 32) : Fin 2 → Nat :=
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let v713 : BitVec 32 := Scalar.addi v43 c0_i32_587
  let c1_i32_588 : BitVec 32 := 1#32
  let v714 : BitVec 32 := Scalar.addi v713 c1_i32_588
  let c4_i32_589 : BitVec 32 := 4#32
  let c0_i32_590 : BitVec 32 := 0#32
  let v715 : BitVec 1 := Scalar.cmpi .eq c4_i32_589 c0_i32_590
  let c1_i32_591 : BitVec 32 := 1#32
  let v716 : BitVec 32 := Scalar.select v715 c1_i32_591 c4_i32_589
  let v717 : BitVec 32 := Scalar.remsi v714 v716
  let c0_i32_593 : BitVec 32 := 0#32
  let v719 : BitVec 1 := Scalar.cmpi .slt v717 c0_i32_593
  let c0_i32_594 : BitVec 32 := 0#32
  let v720 : BitVec 1 := Scalar.cmpi .slt v716 c0_i32_594
  let v721 : BitVec 1 := Scalar.xori v719 v720
  let c0_i32_592 : BitVec 32 := 0#32
  let v718 : BitVec 1 := Scalar.cmpi .ne v717 c0_i32_592
  let v722 : BitVec 1 := Scalar.andi v721 v718
  let v723 : BitVec 32 := Scalar.addi v717 v716
  let v724 : BitVec 32 := Scalar.select v722 v723 v717
  let c1024_i32_595 : BitVec 32 := 1024#32
  let v725 : BitVec 32 := Scalar.muli v724 c1024_i32_595
  let c512_i32_598 : BitVec 32 := 512#32
  ![v725.toNat, 512]
def k0_dev17 (d0 : Dev nD) : Nat :=
  let c0_i32_630 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_22 : BitVec 32 := 1#32
  let v44 : BitVec 32 := Scalar.addi v43 c1_i32_22
  let c4_i32_23 : BitVec 32 := 4#32
  let c0_i32_24 : BitVec 32 := 0#32
  let v45 : BitVec 1 := Scalar.cmpi .eq c4_i32_23 c0_i32_24
  let c1_i32_25 : BitVec 32 := 1#32
  let v46 : BitVec 32 := Scalar.select v45 c1_i32_25 c4_i32_23
  let v47 : BitVec 32 := Scalar.remsi v44 v46
  let c0_i32_27 : BitVec 32 := 0#32
  let v49 : BitVec 1 := Scalar.cmpi .slt v47 c0_i32_27
  let c0_i32_28 : BitVec 32 := 0#32
  let v50 : BitVec 1 := Scalar.cmpi .slt v46 c0_i32_28
  let v51 : BitVec 1 := Scalar.xori v49 v50
  let c0_i32_26 : BitVec 32 := 0#32
  let v48 : BitVec 1 := Scalar.cmpi .ne v47 c0_i32_26
  let v52 : BitVec 1 := Scalar.andi v51 v48
  let v53 : BitVec 32 := Scalar.addi v47 v46
  let v54 : BitVec 32 := Scalar.select v52 v53 v47
  let c0_i32_30 : BitVec 32 := 0#32
  let v56 : BitVec 1 := Scalar.cmpi .sgt v54 c0_i32_30
  let v57 : BitVec 32 := Scalar.extui v56
  let c0_i32_31 : BitVec 32 := 0#32
  let v58 : BitVec 1 := Scalar.cmpi .slt v54 c0_i32_31
  let v59 : BitVec 32 := Scalar.extui v58
  let v60 : BitVec 32 := Scalar.subi v57 v59
  let c2_i32_29 : BitVec 32 := 2#32
  let c0_i32_32 : BitVec 32 := 0#32
  let v61 : BitVec 1 := Scalar.cmpi .sgt c2_i32_29 c0_i32_32
  let v62 : BitVec 32 := Scalar.extui v61
  let c0_i32_33 : BitVec 32 := 0#32
  let v63 : BitVec 1 := Scalar.cmpi .slt c2_i32_29 c0_i32_33
  let v64 : BitVec 32 := Scalar.extui v63
  let v65 : BitVec 32 := Scalar.subi v62 v64
  let v66 : BitVec 1 := Scalar.cmpi .ne v60 v65
  let v67 : BitVec 32 := Scalar.remsi v54 c2_i32_29
  let c0_i32_34 : BitVec 32 := 0#32
  let v68 : BitVec 1 := Scalar.cmpi .ne v67 c0_i32_34
  let v69 : BitVec 1 := Scalar.andi v66 v68
  let v55 : BitVec 32 := Scalar.divsi v54 c2_i32_29
  let c1_i32_35 : BitVec 32 := 1#32
  let v70 : BitVec 32 := Scalar.subi v55 c1_i32_35
  let v71 : BitVec 32 := Scalar.select v69 v70 v55
  let c8_i32_629 : BitVec 32 := 8#32
  let v749 : BitVec 32 := Scalar.muli v71 c8_i32_629
  let v750 : BitVec 32 := Scalar.addi c0_i32_630 v749
  let c0_i32_37 : BitVec 32 := 0#32
  let v73 : BitVec 1 := Scalar.cmpi .sgt v54 c0_i32_37
  let v74 : BitVec 32 := Scalar.extui v73
  let c0_i32_38 : BitVec 32 := 0#32
  let v75 : BitVec 1 := Scalar.cmpi .slt v54 c0_i32_38
  let v76 : BitVec 32 := Scalar.extui v75
  let v77 : BitVec 32 := Scalar.subi v74 v76
  let c2_i32_36 : BitVec 32 := 2#32
  let c0_i32_39 : BitVec 32 := 0#32
  let v78 : BitVec 1 := Scalar.cmpi .sgt c2_i32_36 c0_i32_39
  let v79 : BitVec 32 := Scalar.extui v78
  let c0_i32_40 : BitVec 32 := 0#32
  let v80 : BitVec 1 := Scalar.cmpi .slt c2_i32_36 c0_i32_40
  let v81 : BitVec 32 := Scalar.extui v80
  let v82 : BitVec 32 := Scalar.subi v79 v81
  let v83 : BitVec 1 := Scalar.cmpi .ne v77 v82
  let v84 : BitVec 32 := Scalar.remsi v54 c2_i32_36
  let c0_i32_41 : BitVec 32 := 0#32
  let v85 : BitVec 1 := Scalar.cmpi .ne v84 c0_i32_41
  let v86 : BitVec 1 := Scalar.andi v83 v85
  let v72 : BitVec 32 := Scalar.divsi v54 c2_i32_36
  let c1_i32_42 : BitVec 32 := 1#32
  let v87 : BitVec 32 := Scalar.subi v72 c1_i32_42
  let v88 : BitVec 32 := Scalar.select v86 v87 v72
  let v89 : BitVec 32 := Scalar.addi v54 v88
  let c2_i32_43 : BitVec 32 := 2#32
  let c0_i32_44 : BitVec 32 := 0#32
  let v90 : BitVec 1 := Scalar.cmpi .eq c2_i32_43 c0_i32_44
  let c1_i32_45 : BitVec 32 := 1#32
  let v91 : BitVec 32 := Scalar.select v90 c1_i32_45 c2_i32_43
  let v92 : BitVec 32 := Scalar.remsi v89 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c4_i32_631 : BitVec 32 := 4#32
  let v751 : BitVec 32 := Scalar.muli v99 c4_i32_631
  let v752 : BitVec 32 := Scalar.addi v750 v751
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_632 : BitVec 32 := 1#32
  let v753 : BitVec 32 := Scalar.muli v8 c1_i32_632
  let v754 : BitVec 32 := Scalar.addi v752 v753
  v754.toNat
def k0_dev18 (d0 : Dev nD) : Nat :=
  let c0_i32_680 : BitVec 32 := 0#32
  let c2_i32_15 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v31 : BitVec 32 := Scalar.muli c2_i32_15 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v32 : BitVec 32 := Scalar.addi v2 v5
  let c2_i32_16 : BitVec 32 := 2#32
  let c0_i32_17 : BitVec 32 := 0#32
  let v33 : BitVec 1 := Scalar.cmpi .eq c2_i32_16 c0_i32_17
  let c1_i32_18 : BitVec 32 := 1#32
  let v34 : BitVec 32 := Scalar.select v33 c1_i32_18 c2_i32_16
  let v35 : BitVec 32 := Scalar.remsi v32 v34
  let c0_i32_20 : BitVec 32 := 0#32
  let v37 : BitVec 1 := Scalar.cmpi .slt v35 c0_i32_20
  let c0_i32_21 : BitVec 32 := 0#32
  let v38 : BitVec 1 := Scalar.cmpi .slt v34 c0_i32_21
  let v39 : BitVec 1 := Scalar.xori v37 v38
  let c0_i32_19 : BitVec 32 := 0#32
  let v36 : BitVec 1 := Scalar.cmpi .ne v35 c0_i32_19
  let v40 : BitVec 1 := Scalar.andi v39 v36
  let v41 : BitVec 32 := Scalar.addi v35 v34
  let v42 : BitVec 32 := Scalar.select v40 v41 v35
  let v43 : BitVec 32 := Scalar.addi v31 v42
  let c1_i32_49 : BitVec 32 := 1#32
  let v100 : BitVec 32 := Scalar.subi v43 c1_i32_49
  let c4_i32_50 : BitVec 32 := 4#32
  let c0_i32_51 : BitVec 32 := 0#32
  let v101 : BitVec 1 := Scalar.cmpi .eq c4_i32_50 c0_i32_51
  let c1_i32_52 : BitVec 32 := 1#32
  let v102 : BitVec 32 := Scalar.select v101 c1_i32_52 c4_i32_50
  let v103 : BitVec 32 := Scalar.remsi v100 v102
  let c0_i32_54 : BitVec 32 := 0#32
  let v105 : BitVec 1 := Scalar.cmpi .slt v103 c0_i32_54
  let c0_i32_55 : BitVec 32 := 0#32
  let v106 : BitVec 1 := Scalar.cmpi .slt v102 c0_i32_55
  let v107 : BitVec 1 := Scalar.xori v105 v106
  let c0_i32_53 : BitVec 32 := 0#32
  let v104 : BitVec 1 := Scalar.cmpi .ne v103 c0_i32_53
  let v108 : BitVec 1 := Scalar.andi v107 v104
  let v109 : BitVec 32 := Scalar.addi v103 v102
  let v110 : BitVec 32 := Scalar.select v108 v109 v103
  let c0_i32_57 : BitVec 32 := 0#32
  let v112 : BitVec 1 := Scalar.cmpi .sgt v110 c0_i32_57
  let v113 : BitVec 32 := Scalar.extui v112
  let c0_i32_58 : BitVec 32 := 0#32
  let v114 : BitVec 1 := Scalar.cmpi .slt v110 c0_i32_58
  let v115 : BitVec 32 := Scalar.extui v114
  let v116 : BitVec 32 := Scalar.subi v113 v115
  let c2_i32_56 : BitVec 32 := 2#32
  let c0_i32_59 : BitVec 32 := 0#32
  let v117 : BitVec 1 := Scalar.cmpi .sgt c2_i32_56 c0_i32_59
  let v118 : BitVec 32 := Scalar.extui v117
  let c0_i32_60 : BitVec 32 := 0#32
  let v119 : BitVec 1 := Scalar.cmpi .slt c2_i32_56 c0_i32_60
  let v120 : BitVec 32 := Scalar.extui v119
  let v121 : BitVec 32 := Scalar.subi v118 v120
  let v122 : BitVec 1 := Scalar.cmpi .ne v116 v121
  let v123 : BitVec 32 := Scalar.remsi v110 c2_i32_56
  let c0_i32_61 : BitVec 32 := 0#32
  let v124 : BitVec 1 := Scalar.cmpi .ne v123 c0_i32_61
  let v125 : BitVec 1 := Scalar.andi v122 v124
  let v111 : BitVec 32 := Scalar.divsi v110 c2_i32_56
  let c1_i32_62 : BitVec 32 := 1#32
  let v126 : BitVec 32 := Scalar.subi v111 c1_i32_62
  let v127 : BitVec 32 := Scalar.select v125 v126 v111
  let c8_i32_679 : BitVec 32 := 8#32
  let v799 : BitVec 32 := Scalar.muli v127 c8_i32_679
  let v800 : BitVec 32 := Scalar.addi c0_i32_680 v799
  let c0_i32_64 : BitVec 32 := 0#32
  let v129 : BitVec 1 := Scalar.cmpi .sgt v110 c0_i32_64
  let v130 : BitVec 32 := Scalar.extui v129
  let c0_i32_65 : BitVec 32 := 0#32
  let v131 : BitVec 1 := Scalar.cmpi .slt v110 c0_i32_65
  let v132 : BitVec 32 := Scalar.extui v131
  let v133 : BitVec 32 := Scalar.subi v130 v132
  let c2_i32_63 : BitVec 32 := 2#32
  let c0_i32_66 : BitVec 32 := 0#32
  let v134 : BitVec 1 := Scalar.cmpi .sgt c2_i32_63 c0_i32_66
  let v135 : BitVec 32 := Scalar.extui v134
  let c0_i32_67 : BitVec 32 := 0#32
  let v136 : BitVec 1 := Scalar.cmpi .slt c2_i32_63 c0_i32_67
  let v137 : BitVec 32 := Scalar.extui v136
  let v138 : BitVec 32 := Scalar.subi v135 v137
  let v139 : BitVec 1 := Scalar.cmpi .ne v133 v138
  let v140 : BitVec 32 := Scalar.remsi v110 c2_i32_63
  let c0_i32_68 : BitVec 32 := 0#32
  let v141 : BitVec 1 := Scalar.cmpi .ne v140 c0_i32_68
  let v142 : BitVec 1 := Scalar.andi v139 v141
  let v128 : BitVec 32 := Scalar.divsi v110 c2_i32_63
  let c1_i32_69 : BitVec 32 := 1#32
  let v143 : BitVec 32 := Scalar.subi v128 c1_i32_69
  let v144 : BitVec 32 := Scalar.select v142 v143 v128
  let v145 : BitVec 32 := Scalar.addi v110 v144
  let c2_i32_70 : BitVec 32 := 2#32
  let c0_i32_71 : BitVec 32 := 0#32
  let v146 : BitVec 1 := Scalar.cmpi .eq c2_i32_70 c0_i32_71
  let c1_i32_72 : BitVec 32 := 1#32
  let v147 : BitVec 32 := Scalar.select v146 c1_i32_72 c2_i32_70
  let v148 : BitVec 32 := Scalar.remsi v145 v147
  let c0_i32_74 : BitVec 32 := 0#32
  let v150 : BitVec 1 := Scalar.cmpi .slt v148 c0_i32_74
  let c0_i32_75 : BitVec 32 := 0#32
  let v151 : BitVec 1 := Scalar.cmpi .slt v147 c0_i32_75
  let v152 : BitVec 1 := Scalar.xori v150 v151
  let c0_i32_73 : BitVec 32 := 0#32
  let v149 : BitVec 1 := Scalar.cmpi .ne v148 c0_i32_73
  let v153 : BitVec 1 := Scalar.andi v152 v149
  let v154 : BitVec 32 := Scalar.addi v148 v147
  let v155 : BitVec 32 := Scalar.select v153 v154 v148
  let c4_i32_681 : BitVec 32 := 4#32
  let v801 : BitVec 32 := Scalar.muli v155 c4_i32_681
  let v802 : BitVec 32 := Scalar.addi v800 v801
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_682 : BitVec 32 := 1#32
  let v803 : BitVec 32 := Scalar.muli v8 c1_i32_682
  let v804 : BitVec 32 := Scalar.addi v802 v803
  v804.toNat
-- ==== ReferenceIdeal.lean ====
abbrev S4x4096x4096 : Shape := ⟨3, ![4, 4096, 4096]⟩
abbrev S_ : Shape := ⟨0, ![]⟩
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S_, .f32⟩
  | .hbm, ⟨2, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdealRun.Prog.lean ====
/-
The kernel's program read back as a list of the steps a reader of the source would name: the entry barrier, the z
ring's sends, stagings and additions, the xy ring's sends, and the stores of the finished pieces. Every step is
written once for both directions (`true` for the ascending ring, `false` for the descending one).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdealRun

open Cert.KernelIdeal Cert.KernelIdeal.Gen
open Idealize.ShloMosaic
open Idealize.ShloMosaic.TcCoe
open Idealize.SL.Sem

variable {F : FTy → Type} [FloatOps F]

/-! ## The memrefs -/

/-- The whole operand and the whole result. -/
abbrev xM : Memref sig .tc .hbm S1x4096x4096 .f32 := Memref.whole main_arg0
abbrev yM : Memref sig .tc .hbm S4096x1024 .f32 := Memref.whole main_v1

/-- A direction's two-slot buffer of the z ring, its staging buffer, its three-slot buffer of the xy ring. -/
abbrev commM : Bool → Memref sig .tc .vmem S2x1024x512 .f32
  | true => Memref.whole cc0_scratch0
  | false => Memref.whole cc0_scratch1
abbrev locM : Bool → Memref sig .tc .vmem S1024x512 .f32
  | true => Memref.whole cc0_scratch2
  | false => Memref.whole cc0_scratch3
abbrev gathM : Bool → Memref sig .tc .vmem S3x1024x512 .f32
  | true => Memref.whole cc0_scratch4
  | false => Memref.whole cc0_scratch5

theorem inb_slot (i : Fin 2) : ∀ a, (![(i : ℕ), 0, 0] : Fin 3 → ℕ) a + S1x1024x512.size a ≤ S2x1024x512.size a := by
  revert i; decide
theorem inb_ag (h : Fin 3) : ∀ a, (![(h : ℕ), 0, 0] : Fin 3 → ℕ) a + S1x1024x512.size a ≤ S3x1024x512.size a := by
  revert h; decide

/-- Slot `i` of a direction's z-ring buffer. -/
abbrev slot (d : Bool) (i : Fin 2) : Memref sig .tc .vmem S1024x512 .f32 :=
  ((commM d).slice (Rect.unit (s := S2x1024x512) ![(i : ℕ), 0, 0] S1x1024x512.size (inb_slot i)) (fun _ => rfl)).squeeze
    S1024x512 squeezes_S1x1024x512_S1024x512

/-- Slot `h` of a direction's xy-ring buffer. -/
abbrev ag (d : Bool) (h : Fin 3) : Memref sig .tc .vmem S1024x512 .f32 :=
  ((gathM d).slice (Rect.unit (s := S3x1024x512) ![(h : ℕ), 0, 0] S1x1024x512.size (inb_ag h)) (fun _ => rfl)).squeeze
    S1024x512 squeezes_S1x1024x512_S1024x512

/-- Where in the operand a direction's first send reads, and where the staging of its step `s` does. -/
abbrev offSend : Bool → Dev nD → Fin 3 → ℕ
  | true, c => k0_off1 c
  | false, c => k0_off2 c
abbrev offStage : Bool → Fin 3 → Dev nD → Fin 3 → ℕ
  | true, s, c => k0_off3 c (BitVec.ofNat 32 s)
  | false, s, c => k0_off4 c (BitVec.ofNat 32 s)
/-- Where in the result a direction's own finished block goes, and where the `h`-th gathered one does. -/
abbrev offPiece : Bool → Fin 4 → Dev nD → Fin 2 → ℕ
  | true, 0, c => k0_off5 c | false, 0, c => k0_off6 c
  | true, 1, c => k0_off7 c 0#32 | false, 1, c => k0_off8 c 0#32
  | true, 2, c => k0_off7 c 1#32 | false, 2, c => k0_off8 c 1#32
  | true, 3, c => k0_off7 c 2#32 | false, 3, c => k0_off8 c 2#32

theorem inb_send (d : Bool) (c : Dev nD) : ∀ a, offSend d c a + S1x1024x512.size a ≤ S1x4096x4096.size a := by
  cases d; exacts [k0_off2_inb c, k0_off1_inb c]
theorem inb_stage (d : Bool) (s : Fin 3) (c : Dev nD) : ∀ a, offStage d s c a + S1x1024x512.size a ≤ S1x4096x4096.size a := by
  cases d; exacts [k0_off4_inb c s, k0_off3_inb c s]
theorem inb_piece (d : Bool) (j : Fin 4) (c : Dev nD) : ∀ a, offPiece d j c a + S1024x512.size a ≤ S4096x1024.size a := by
  cases d <;> fin_cases j
  exacts [k0_off6_inb c, k0_off8_inb c 0, k0_off8_inb c 1, k0_off8_inb c 2, k0_off5_inb c, k0_off7_inb c 0, k0_off7_inb c 1, k0_off7_inb c 2]

/-- The piece of the operand a direction's first send carries, and the one staged for its step `s`. -/
abbrev xsend (d : Bool) (c : Dev nD) : Memref sig .tc .hbm S1024x512 .f32 :=
  (xM.slice (Rect.unit (s := S1x4096x4096) (offSend d c) S1x1024x512.size (inb_send d c)) (fun _ => rfl)).squeeze
    S1024x512 squeezes_S1x1024x512_S1024x512
abbrev xstage (d : Bool) (s : Fin 3) (c : Dev nD) : Memref sig .tc .hbm S1024x512 .f32 :=
  (xM.slice (Rect.unit (s := S1x4096x4096) (offStage d s c) S1x1024x512.size (inb_stage d s c)) (fun _ => rfl)).squeeze
    S1024x512 squeezes_S1x1024x512_S1024x512

/-- The piece of the result a direction's finished block goes to: its own (`0`), then the ones gathered. -/
abbrev rPiece (d : Bool) (j : Fin 4) (c : Dev nD) : Rect S4096x1024 :=
  Rect.unit (s := S4096x1024) (offPiece d j c) S1024x512.size (inb_piece d j c)
abbrev piece (d : Bool) (j : Fin 4) (c : Dev nD) : Memref sig .tc .hbm S1024x512 .f32 :=
  yM.slice (rPiece d j c) (fun _ => rfl)

/-! ## The semaphores -/

abbrev barS : Sem sig := barrier0
abbrev zsS : Bool → DmaSem sig | true => (0 : Fin 20) | false => (1 : Fin 20)
abbrev zrS : Bool → Fin 3 → DmaSem sig
  | true, 0 => (2 : Fin 20) | true, 1 => (3 : Fin 20) | true, 2 => (4 : Fin 20)
  | false, 0 => (5 : Fin 20) | false, 1 => (6 : Fin 20) | false, 2 => (7 : Fin 20)
abbrev asS : Bool → DmaSem sig | true => (8 : Fin 20) | false => (9 : Fin 20)
abbrev arS : Bool → Fin 3 → DmaSem sig
  | true, 0 => (10 : Fin 20) | true, 1 => (11 : Fin 20) | true, 2 => (12 : Fin 20)
  | false, 0 => (13 : Fin 20) | false, 1 => (14 : Fin 20) | false, 2 => (15 : Fin 20)
abbrev locS : Bool → DmaSem sig | true => (16 : Fin 20) | false => (17 : Fin 20)
abbrev outS : Bool → DmaSem sig | true => (18 : Fin 20) | false => (19 : Fin 20)
abbrev freeS : Bool → Sem sig | true => (0 : Fin 3) | false => (1 : Fin 3)

/-! ## The devices the program names -/

abbrev barDev (c : Dev nD) : Fin 4 → Dev nD
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
abbrev zDev (c : Dev nD) : Bool → Fin 3 → Dev nD
  | true, 0 => ⟨k0_dev5 c, k0_dev5_lt c⟩ | true, 1 => ⟨k0_dev7 c, k0_dev7_lt c⟩ | true, 2 => ⟨k0_dev10 c, k0_dev10_lt c⟩
  | false, 0 => ⟨k0_dev6 c, k0_dev6_lt c⟩ | false, 1 => ⟨k0_dev8 c, k0_dev8_lt c⟩ | false, 2 => ⟨k0_dev12 c, k0_dev12_lt c⟩
abbrev freeDev (c : Dev nD) : Bool → Dev nD
  | true => ⟨k0_dev9 c, k0_dev9_lt c⟩ | false => ⟨k0_dev11 c, k0_dev11_lt c⟩
abbrev aDev (c : Dev nD) : Bool → Fin 3 → Dev nD
  | true, 0 => ⟨k0_dev13 c, k0_dev13_lt c⟩ | true, 1 => ⟨k0_dev15 c, k0_dev15_lt c⟩ | true, 2 => ⟨k0_dev17 c, k0_dev17_lt c⟩
  | false, 0 => ⟨k0_dev14 c, k0_dev14_lt c⟩ | false, 1 => ⟨k0_dev16 c, k0_dev16_lt c⟩ | false, 2 => ⟨k0_dev18 c, k0_dev18_lt c⟩

/-! ## The steps -/

abbrev Pg (F : FTy → Type) [FloatOps F] : Type 1 := Prog (TpuEff nD τ sig (Elt F) Λ₀ .tc) PUnit

/-- A copy from one block-shaped memref to a peer's, and one within the device. -/
def far {sp : Space} (src : Memref sig .tc sp S1024x512 .f32) (n : Dev nD) (dst : Memref sig .tc .vmem S1024x512 .f32) (sS rS : DmaSem sig)
    (hs : src.view.WordExact) (hd : dst.view.WordExact) (hl : sp.noHostEnd .vmem := by trivial) : Pg F :=
  Prog.lift (.enqueueDma src (.remote (Dev.tc n) dst (.dma sS)) (.dma rS) hs hd ⟨⟨rfl, Or.inl rfl⟩, hl⟩)
def near {sp sp' : Space} (src : Memref sig .tc sp S1024x512 .f32) (dst : Memref sig .tc sp' S1024x512 .f32) (sm : DmaSem sig)
    (hs : src.view.WordExact) (hd : dst.view.WordExact) (hl : sp.hostPairLowered sp' true := by trivial) : Pg F :=
  Prog.lift (.enqueueDma src (.here dst) (.dma sm) hs hd ⟨Or.inl rfl, hl⟩)
def await {sp sp' : Space} (sm : DmaSem sig) (src : Memref sig .tc sp S1024x512 .f32) (dst : Memref sig .tc sp' S1024x512 .f32)
    (hs : src.view.WordExact) (hd : dst.view.WordExact) : Pg F :=
  Prog.lift (.waitDma2 sm src dst hs hd)

theorem we_slot (d : Bool) (i : Fin 2) : (slot d i).view.WordExact := (View.wordExact_bits rfl).reshape _ _
theorem we_ag (d : Bool) (h : Fin 3) : (ag d h).view.WordExact := (View.wordExact_bits rfl).reshape _ _
theorem we_loc (d : Bool) : (locM d).view.WordExact := View.wordExact_bits rfl
theorem we_xsend (d : Bool) (c : Dev nD) : (xsend d c).view.WordExact := (View.wordExact_bits rfl).reshape _ _
theorem we_xstage (d : Bool) (s : Fin 3) (c : Dev nD) : (xstage d s c).view.WordExact := (View.wordExact_bits rfl).reshape _ _
theorem we_piece (d : Bool) (j : Fin 4) (c : Dev nD) : (piece d j c).view.WordExact := View.wordExact_bits rfl

/-- The first send of a direction, and the stagings. -/
def pSend0 (c : Dev nD) (d : Bool) : Pg F := far (xsend d c) (zDev c d 0) (slot d 0) (zsS d) (zrS d 0) (we_xsend d c) (we_slot d 0)
def pStage (c : Dev nD) (d : Bool) (s : Fin 3) : Pg F := near (xstage d s c) (locM d) (locS d) (we_xstage d s c) (we_loc d)
/-- The sends of a direction's running sums. -/
def pSend1 (c : Dev nD) (d : Bool) : Pg F := far (slot d 0) (zDev c d 1) (slot d 1) (zsS d) (zrS d 1) (we_slot d 0) (we_slot d 1)
def pSend2 (c : Dev nD) (d : Bool) : Pg F := far (slot d 1) (zDev c d 2) (slot d 0) (zsS d) (zrS d 2) (we_slot d 1) (we_slot d 0)
/-- Telling the sender that slot 0 is free again, and being told. -/
def pFree (c : Dev nD) (d : Bool) : Pg F := do
  semSignalWord (freeDev c d) (freeS d) 1#32
  semWaitWord (freeS d) 1#32

abbrev rSlot (i : Fin 2) : Rect S2x1024x512 := Rect.unit (s := S2x1024x512) ![(i : ℕ), 0, 0] S1x1024x512.size (inb_slot i)
abbrev rLoc : Rect S1024x512 := Rect.unit (s := S1024x512) ![0, 0] S1024x512.size inb_S1024x512_S1024x512_0_0

/-- The addition of a staged block to a landed one. -/
def pAdd (d : Bool) (i : Fin 2) : Pg F := do
  let v ← Prog.lift (.load (commM d) (rSlot i).toLoadRect (View.loadsAt_vmem h_S1x1024x512))
  let w ← Prog.lift (.load (locM d) rLoc.toLoadRect (View.loadsAt_vmem h_S1024x512))
  let _ ← Prog.lift (.load (commM d) (rSlot i).toLoadRect (View.loadsAt_vmem h_S1x1024x512))
  Prog.lift (.store (commM d) (rSlot i) (k0_pay1 v w) Finset.univ (View.stores_vmem_bits_univ h_S1x1024x512 rfl) (.inl rfl))

/-- The end of a direction's step: the staged block in, the send out, the landing in, the sum stored. -/
def pFin0 (c : Dev nD) (d : Bool) : Pg F := do
  await (locS d) (xstage d 0 c) (locM d) (we_xstage d 0 c) (we_loc d)
  await (zsS d) (slot d 0) (xsend d c) (we_slot d 0) (we_xsend d c)
  await (zrS d 0) (xsend d c) (slot d 0) (we_xsend d c) (we_slot d 0)
  pAdd d 0
def pFin1 (c : Dev nD) (d : Bool) : Pg F := do
  await (locS d) (xstage d 1 c) (locM d) (we_xstage d 1 c) (we_loc d)
  await (zsS d) (slot d 1) (slot d 0) (we_slot d 1) (we_slot d 0)
  await (zrS d 1) (slot d 0) (slot d 1) (we_slot d 0) (we_slot d 1)
  pAdd d 1
def pFin2 (c : Dev nD) (d : Bool) : Pg F := do
  await (locS d) (xstage d 2 c) (locM d) (we_xstage d 2 c) (we_loc d)
  await (zsS d) (slot d 0) (slot d 1) (we_slot d 0) (we_slot d 1)
  await (zrS d 2) (slot d 1) (slot d 0) (we_slot d 1) (we_slot d 0)
  pAdd d 0

/-- The xy ring: the first send, its store, and each later hop with the store of what it landed. -/
def pHop0 (c : Dev nD) (d : Bool) : Pg F := far (slot d 0) (aDev c d 0) (ag d 0) (asS d) (arS d 0) (we_slot d 0) (we_ag d 0)
def pOut0 (c : Dev nD) (d : Bool) : Pg F := near (slot d 0) (piece d 0 c) (outS d) (we_slot d 0) (we_piece d 0 c)
def pHop1 (c : Dev nD) (d : Bool) : Pg F := do
  await (asS d) (ag d 0) (slot d 0) (we_ag d 0) (we_slot d 0)
  await (arS d 0) (slot d 0) (ag d 0) (we_slot d 0) (we_ag d 0)
  far (ag d 0) (aDev c d 1) (ag d 1) (asS d) (arS d 1) (we_ag d 0) (we_ag d 1)
  near (ag d 0) (piece d 1 c) (outS d) (we_ag d 0) (we_piece d 1 c)
def pHop2 (c : Dev nD) (d : Bool) : Pg F := do
  await (asS d) (ag d 1) (ag d 0) (we_ag d 1) (we_ag d 0)
  await (arS d 1) (ag d 0) (ag d 1) (we_ag d 0) (we_ag d 1)
  far (ag d 1) (aDev c d 2) (ag d 2) (asS d) (arS d 2) (we_ag d 1) (we_ag d 2)
  near (ag d 1) (piece d 2 c) (outS d) (we_ag d 1) (we_piece d 2 c)
def pHop3 (c : Dev nD) (d : Bool) : Pg F := do
  await (asS d) (ag d 2) (ag d 1) (we_ag d 2) (we_ag d 1)
  await (arS d 2) (ag d 1) (ag d 2) (we_ag d 1) (we_ag d 2)
  near (ag d 2) (piece d 3 c) (outS d) (we_ag d 2) (we_piece d 3 c)
/-- The waits for the stores: of the own block, of a gathered one. -/
def pWait0 (c : Dev nD) (d : Bool) : Pg F := await (outS d) (slot d 0) (piece d 0 c) (we_slot d 0) (we_piece d 0 c)
def pWait1 (c : Dev nD) (d : Bool) : Pg F := await (outS d) (ag d 0) (piece d 1 c) (we_ag d 0) (we_piece d 1 c)
def pWait2 (c : Dev nD) (d : Bool) : Pg F := await (outS d) (ag d 1) (piece d 2 c) (we_ag d 1) (we_piece d 2 c)
def pWait3 (c : Dev nD) (d : Bool) : Pg F := await (outS d) (ag d 2) (piece d 3 c) (we_ag d 2) (we_piece d 3 c)

/-- The entry: each neighbour on both rings told, then told by each. -/
def pEntry (c : Dev nD) : Pg F := do
  semSignalWord (barDev c 0) barS 1#32
  semSignalWord (barDev c 1) barS 1#32
  semSignalWord (barDev c 2) barS 1#32
  semSignalWord (barDev c 3) barS 1#32
  semWaitWord barS 4#32

/-- The kernel on device `c`. -/
def prog (c : Dev nD) : Pg F := do
  pEntry c
  pSend0 c true
  pSend0 c false
  pStage c true 0
  pStage c false 0
  pFin0 c true
  pSend1 c true
  pFin0 c false
  pSend1 c false
  pStage c true 1
  pStage c false 1
  pFin1 c true
  pFree c true
  pSend2 c true
  pFin1 c false
  pFree c false
  pSend2 c false
  pStage c true 2
  pStage c false 2
  pFin2 c true
  pFin2 c false
  pHop0 c true
  pHop0 c false
  pOut0 c true
  pOut0 c false
  pHop1 c true
  pHop1 c false
  pHop2 c true
  pHop2 c false
  pHop3 c true
  pHop3 c false
  pWait0 c true
  pWait0 c false
  pWait1 c true
  pWait1 c false
  pWait2 c true
  pWait2 c false
  pWait3 c true
  pWait3 c false

set_option maxRecDepth 65536 in
theorem body_eq : cc0_body (F := F) xM (Memref.isWhole_whole _) yM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12
    = Prog.op .deviceId fun c => prog c := by
  chain_rfl

end Cert.KernelIdealRun
-- ==== Proof.KernelIdealRun.Sched.lean ====
/-
The protocol: the two rings, the semaphore cells, what the devices' blocks hold at each step, the schedule of payments
with their contents, what each device owes at launch, and the order of the cells that keeps every wait safe.
-/
module

public import proofs.«01_k».proof.Proof.KernelIdealRun.Prog

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The rings -/

/-- Where a direction's z-ring sends go: device `8x + 4y + z` to the next `z` (ascending) or the one before. -/
def zn : Bool → Dev nD → Dev nD
  | true, c => ⟨4 * (c.val / 4) + (c.val + 1) % 4, by have := c.isLt; change _ < 16; change _ < 16 at this; omega⟩
  | false, c => ⟨4 * (c.val / 4) + (c.val + 3) % 4, by have := c.isLt; change _ < 16; change _ < 16 at this; omega⟩

/-- The planes `2x + y` in the xy ring's order, forwards and backwards. -/
def pNext : Fin 4 → Fin 4 := ![1, 3, 0, 2]
def pPrev : Fin 4 → Fin 4 := ![2, 0, 3, 1]

/-- Where a direction's xy-ring sends go. -/
def an : Bool → Dev nD → Dev nD
  | true, c => ⟨4 * (pNext ⟨c.val / 4 % 4, Nat.mod_lt _ (by decide)⟩).val + c.val % 4, by
      have := (pNext ⟨c.val / 4 % 4, Nat.mod_lt _ (by decide)⟩).isLt; change _ < 16; omega⟩
  | false, c => ⟨4 * (pPrev ⟨c.val / 4 % 4, Nat.mod_lt _ (by decide)⟩).val + c.val % 4, by
      have := (pPrev ⟨c.val / 4 % 4, Nat.mod_lt _ (by decide)⟩).isLt; change _ < 16; omega⟩

theorem zn_zn (d : Bool) (c : Dev nD) : zn d (zn (!d) c) = c := by revert d c; decide
theorem zn_zn' (d : Bool) (c : Dev nD) : zn (!d) (zn d c) = c := by revert d c; decide
theorem an_an (d : Bool) (c : Dev nD) : an d (an (!d) c) = c := by revert d c; decide
theorem an_an' (d : Bool) (c : Dev nD) : an (!d) (an d c) = c := by revert d c; decide

def zEquiv (d : Bool) : Dev nD ≃ Dev nD := ⟨zn d, zn (!d), zn_zn' d, zn_zn d⟩
def aEquiv (d : Bool) : Dev nD ≃ Dev nD := ⟨an d, an (!d), an_an' d, an_an d⟩

theorem barDev0 (c : Dev nD) : barDev c 0 = zn false c := by revert c; decide +kernel
theorem barDev1 (c : Dev nD) : barDev c 1 = zn true c := by revert c; decide +kernel
theorem barDev2 (c : Dev nD) : barDev c 2 = an false c := by revert c; decide +kernel
theorem barDev3 (c : Dev nD) : barDev c 3 = an true c := by revert c; decide +kernel
theorem zDev_eq (c : Dev nD) (d : Bool) (s : Fin 3) : zDev c d s = zn d c := by revert c d s; decide +kernel
theorem freeDev_eq (c : Dev nD) (d : Bool) : freeDev c d = zn (!d) c := by revert c d; decide +kernel
theorem aDev_eq (c : Dev nD) (d : Bool) (h : Fin 3) : aDev c d h = an d c := by revert c d h; decide +kernel

/-! ## The cells -/

/-- A device's semaphores: the entry barrier; a direction's z-ring send and its three landings; its xy-ring send and its
    three landings; its staging; its stores; its slot-free signal. -/
inductive Cl where
  | bar | zs (d : Bool) | zr (d : Bool) (s : Fin 3) | as (d : Bool) | ar (d : Bool) (h : Fin 3)
  | loc (d : Bool) | out (d : Bool) | free (d : Bool)
  deriving DecidableEq

def csem : Cl → SemLoc sig
  | .bar => .reg barS | .zs d => .dma (zsS d) | .zr d s => .dma (zrS d s) | .as d => .dma (asS d) | .ar d h => .dma (arS d h)
  | .loc d => .dma (locS d) | .out d => .dma (outS d) | .free d => .reg (freeS d)

def dmaCl : Fin 20 → Cl := ![.zs true, .zs false, .zr true 0, .zr true 1, .zr true 2, .zr false 0, .zr false 1, .zr false 2,
  .as true, .as false, .ar true 0, .ar true 1, .ar true 2, .ar false 0, .ar false 1, .ar false 2,
  .loc true, .loc false, .out true, .out false]
def regCl : Fin 3 → Cl := ![.free true, .free false, .bar]
def clOf : SemLoc sig → Cl
  | .reg n => regCl n
  | .dma n => dmaCl n

theorem clOf_csem (k : Cl) : clOf (csem k) = k := by
  rcases k with _ | d | ⟨d, s⟩ | d | ⟨d, s⟩ | d | d | d <;> try rfl
  all_goals (cases d <;> first | rfl | (fin_cases s <;> rfl))
theorem csem_clOf (q : SemLoc sig) : csem (clOf q) = q := by
  rcases q with n | n
  · have h : ∀ n : Fin 3, csem (clOf (.reg n)) = .reg n := by decide
    exact h n
  · have h : ∀ n : Fin 20, csem (clOf (.dma n)) = .dma n := by decide
    exact h n
theorem csem_injective : Function.Injective csem := Function.LeftInverse.injective clOf_csem

/-- The cells in the semaphores' order: the twenty a transfer counts on, then the signalled ones. -/
def allCl : List Cl := [.zs true, .zs false, .zr true 0, .zr true 1, .zr true 2, .zr false 0, .zr false 1, .zr false 2,
  .as true, .as false, .ar true 0, .ar true 1, .ar true 2, .ar false 0, .ar false 1, .ar false 2,
  .loc true, .loc false, .out true, .out false, .free true, .free false, .bar]

theorem allCl_nodup : allCl.Nodup := by decide
theorem mem_allCl (k : Cl) : k ∈ allCl := by
  rcases k with _ | d | ⟨d, s⟩ | d | ⟨d, s⟩ | d | d | d <;> try decide
  all_goals (cases d <;> first | decide | (fin_cases s <;> decide))
instance : Fintype Cl := ⟨⟨allCl, allCl_nodup⟩, mem_allCl⟩

abbrev cell (c : Dev nD) (k : Cl) : GSem nD τ sig := ((c : Thread nD τ), csem k)

/-- A block's transfer credit. -/
@[irreducible] def N : ℕ := (slot true 0).view.dmaCredit
theorem N_pos : 0 < N := by unfold N; exact View.dmaCredit_pos _ (by decide)

/-! ## What the blocks hold -/

variable (m : (ℓ : Loc nD τ sig) → Buf (Elt F) ℓ) (ρ : Dev nD → PrngReg)

/-- A block of the kernel's shape. -/
abbrev Blk (F : FTy → Type) : Type := S1024x512.Idx → Elt F .f32

def addB (a b : Blk F) : Blk F := addf (F := F) (s := S1024x512) (φ := .f32) a b

/-- The pieces of its operand a device sends first and stages. -/
def sendV (d : Bool) (c : Dev nD) : Blk F := (xsend d c).view.read (Elt F) (m ((c : Thread nD τ).loc main_arg0))
def stgV (d : Bool) (s : Fin 3) (c : Dev nD) : Blk F := (xstage d s c).view.read (Elt F) (m ((c : Thread nD τ).loc main_arg0))

/-- What a device's three landings on the z ring bring, and the sums it makes of them. -/
def land0 (d : Bool) (c : Dev nD) : Blk F := sendV m d (zn (!d) c)
def sum0 (d : Bool) (c : Dev nD) : Blk F := addB (land0 m d c) (stgV m d 0 c)
def land1 (d : Bool) (c : Dev nD) : Blk F := sum0 m d (zn (!d) c)
def sum1 (d : Bool) (c : Dev nD) : Blk F := addB (land1 m d c) (stgV m d 1 c)
def land2 (d : Bool) (c : Dev nD) : Blk F := sum1 m d (zn (!d) c)
def fin (d : Bool) (c : Dev nD) : Blk F := addB (land2 m d c) (stgV m d 2 c)
/-- What its landings on the xy ring bring. -/
def gath0 (d : Bool) (c : Dev nD) : Blk F := fin m d (an (!d) c)
def gath1 (d : Bool) (c : Dev nD) : Blk F := gath0 m d (an (!d) c)
def gath2 (d : Bool) (c : Dev nD) : Blk F := gath1 m d (an (!d) c)

def outV (d : Bool) (c : Dev nD) : Fin 4 → Blk F
  | 0 => fin m d c | 1 => gath0 m d c | 2 => gath1 m d c | 3 => gath2 m d c

/-! ## The schedule -/

/-- Device `c` owns the memref at some contents. -/
def anyAt (c : Dev nD) {sp : Space} (b : Memref sig .tc sp S1024x512 .f32) (q : PosShare TreeShare) : sProp 𝕄 :=
  iprop(∃ X, ownsTc c b q X)

omit [FloatOps F] in
instance anyAt_storable (c : Dev nD) {sp : Space} (b : Memref sig .tc sp S1024x512 .f32) (q : PosShare TreeShare) :
    BI.Storable (upEmb : UEmb _ 𝕄) (anyAt (F := F) c b q) := by unfold anyAt; infer_instance

/-- What the unit(s) of duty `i` of round `r` of device `c`'s cell `k` hand over. -/
def pay (c : Dev nD) : Cl → ℕ → Fin 4 → sProp 𝕄
  | .bar, _, 0 => iprop(anyAt (zn true c) (slot true 0) fullShare ∗ anyAt (zn true c) (slot true 1) fullShare)
  | .bar, _, 1 => iprop(anyAt (zn false c) (slot false 0) fullShare ∗ anyAt (zn false c) (slot false 1) fullShare)
  | .bar, _, 2 => iprop(anyAt (an true c) (ag true 0) fullShare ∗ anyAt (an true c) (ag true 1) fullShare ∗ anyAt (an true c) (ag true 2) fullShare)
  | .bar, _, 3 => iprop(anyAt (an false c) (ag false 0) fullShare ∗ anyAt (an false c) (ag false 1) fullShare ∗ anyAt (an false c) (ag false 2) fullShare)
  | .zs d, 1, _ => anyAt c (slot d 0) fullShare
  | .zs d, 2, _ => anyAt c (slot d 1) fullShare
  | .zs d, _, _ => iprop(emp)
  | .zr d 0, _, _ => ownsTc c (slot d 0) fullShare (land0 m d c)
  | .zr d 1, _, _ => ownsTc c (slot d 1) fullShare (land1 m d c)
  | .zr d 2, _, _ => ownsTc c (slot d 0) fullShare (land2 m d c)
  | .as d, 0, _ => anyAt c (slot d 0) fullShare.left
  | .as d, 1, _ => anyAt c (ag d 0) fullShare.left
  | .as d, 2, _ => anyAt c (ag d 1) fullShare.left
  | .as d, _, _ => iprop(emp)
  | .ar d 0, _, _ => ownsTc c (ag d 0) fullShare (gath0 m d c)
  | .ar d 1, _, _ => ownsTc c (ag d 1) fullShare (gath1 m d c)
  | .ar d 2, _, _ => ownsTc c (ag d 2) fullShare (gath2 m d c)
  | .loc d, 0, _ => ownsTc c (locM d) fullShare (stgV m d 0 c)
  | .loc d, 1, _ => ownsTc c (locM d) fullShare (stgV m d 1 c)
  | .loc d, 2, _ => ownsTc c (locM d) fullShare (stgV m d 2 c)
  | .loc d, _, _ => iprop(emp)
  | .out d, _, 0 => iprop(ownsTc c (piece d 0 c) fullShare (outV m d c 0) ∗ anyAt c (slot d 0) fullShare.right)
  | .out d, _, 1 => iprop(ownsTc c (piece d 1 c) fullShare (outV m d c 1) ∗ anyAt c (ag d 0) fullShare.right)
  | .out d, _, 2 => iprop(ownsTc c (piece d 2 c) fullShare (outV m d c 2) ∗ anyAt c (ag d 1) fullShare.right)
  | .out d, _, 3 => iprop(ownsTc c (piece d 3 c) fullShare (outV m d c 3) ∗ anyAt c (ag d 2) fullShare.right)
  | .free d, _, _ => anyAt (zn d c) (slot d 0) fullShare

instance pay_storable (c : Dev nD) (k : Cl) (r : ℕ) (i : Fin 4) : BI.Storable (upEmb : UEmb _ 𝕄) (pay (F := F) m c k r i) := by
  unfold pay; split <;> infer_instance

/-- How many rounds a cell has, the duties of each, the units of a duty. -/
def rounds : Cl → ℕ
  | .zs _ => 3 | .as _ => 3 | .loc _ => 3 | _ => 1
def duty : Cl → Finset (Fin 4)
  | .bar => Finset.univ | .out _ => Finset.univ | _ => {0}
def amt : Cl → ℕ
  | .bar => 1 | .free _ => 1 | _ => N

theorem amt_pos (k : Cl) : 0 < amt k := by cases k <;> dsimp only [amt] <;> first | exact Nat.one_pos | exact N_pos

/-- The schedule. -/
def Rd : Rounds.Schedule (GSem nD τ sig) (Fin 4) 𝕄 where
  duties g r := if g.1.2 = .tc ∧ r < rounds (clOf g.2) then duty (clOf g.2) else ∅
  unitless _ := False
  amount g _ _ := amt (clOf g.2)
  payload g r i := pay m g.1.1 (clOf g.2) r i
  amount_pos g _ _ _ := amt_pos _

instance Rd_payload_storable (g : GSem nD τ sig) (r : ℕ) (i : Fin 4) :
    BI.Storable (upEmb : UEmb _ 𝕄) ((Rd (F := F) m).payload g r i) := by
  show BI.Storable upEmb (pay m g.1.1 (clOf g.2) r i); infer_instance

section Facts
variable (c : Dev nD) (k : Cl)

theorem duties_lt {r : ℕ} (h : r < rounds k) : (Rd (F := F) m).duties (cell c k) r = duty k := by
  dsimp only [Rd]; rw [clOf_csem]; exact if_pos ⟨rfl, h⟩
theorem duties_ge {r : ℕ} (h : rounds k ≤ r) : (Rd (F := F) m).duties (cell c k) r = ∅ := by
  dsimp only [Rd]; rw [clOf_csem]; exact if_neg fun h' => absurd h'.2 (Nat.not_lt.mpr h)
theorem amount_eq (r : ℕ) (i : Fin 4) : (Rd (F := F) m).amount (cell c k) r i = amt k := by dsimp only [Rd]; rw [clOf_csem]
theorem payload_eq (r : ℕ) (i : Fin 4) : (Rd (F := F) m).payload (cell c k) r i = pay m c k r i := by dsimp only [Rd]; rw [clOf_csem]
theorem expect_eq {r : ℕ} (h : r < rounds k) : (Rd (F := F) m).expect (cell c k) r = (duty k).card * amt k := by
  unfold Schedule.expect Schedule.amountOf
  rw [duties_lt m c k h, Finset.sum_congr rfl fun i _ => amount_eq m c k r i, Finset.sum_const, smul_eq_mul]
end Facts

/-! ## The levels, and what a device owes -/

/-- The order of the cells: those only their own device pays at the bottom, then the payments to the neighbours in the
    order every device makes them. -/
def lvC : Cl → ℕ
  | .zs _ => 0 | .as _ => 0 | .loc _ => 0 | .out _ => 0 | .bar => 1
  | .zr true 0 => 2 | .zr false 0 => 3 | .zr true 1 => 4 | .zr false 1 => 5 | .free true => 6 | .zr true 2 => 7
  | .free false => 8 | .zr false 2 => 9
  | .ar true 0 => 10 | .ar false 0 => 11 | .ar true 1 => 12 | .ar false 1 => 13 | .ar true 2 => 14 | .ar false 2 => 15

def L (g : GSem nD τ sig) : Finset Unit := if g.1.2 = .tc then {()} else ∅
def lv (g : GSem nD τ sig) (_ : Unit) : ℕ := lvC (clOf g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Cl) (u : Unit) : lv (cell c k) u = lvC k := by unfold lv; rw [clOf_csem]

/-- A payment still to make: whose cell, which, how many units. -/
abbrev Due : Type := Dev nD × Cl

def owedL : List Due → CellTallies nD τ sig Unit
  | [] => 0
  | p :: l => owedL l + tallyAt (cell p.1 p.2) () (amt p.2)

/-- Every payment of device `c`, in the program's order. -/
def dues (c : Dev nD) : List Due :=
  [(zn false c, .bar), (zn true c, .bar), (an false c, .bar), (an true c, .bar),
   (zn true c, .zr true 0), (zn false c, .zr false 0), (zn true c, .zr true 1), (zn false c, .zr false 1),
   (zn false c, .free true), (zn true c, .zr true 2), (zn true c, .free false), (zn false c, .zr false 2),
   (an true c, .ar true 0), (an false c, .ar false 0), (an true c, .ar true 1), (an false c, .ar false 1),
   (an true c, .ar true 2), (an false c, .ar false 2)]

theorem owedL_pos {l : List Due} {g : GSem nD τ sig} {u : Unit} (h : 0 < owedL l g u) : ∃ p ∈ l, g = cell p.1 p.2 := by
  induction l with
  | nil => exact absurd h (Nat.lt_irrefl 0)
  | cons p l ih =>
    unfold owedL at h
    rw [Pi.add_apply, Finsupp.add_apply, tallyAt_apply] at h
    by_cases hg : g = cell p.1 p.2 ∧ u = ()
    · exact ⟨p, List.mem_cons_self, hg.1⟩
    · rw [if_neg hg, Nat.add_zero] at h
      obtain ⟨p', hp', e⟩ := ih h
      exact ⟨p', List.mem_cons_of_mem _ hp', e⟩

omit [FloatOps F] in
/-- A wait is safe when everything still owed is above the cell waited on. -/
theorem mayWait (c : Dev nD) (k : Cl) (l : List Due) (h : ∀ p ∈ l, lvC k < lvC p.2) :
    (levAts L lv : sProp 𝕄) ⊢ MayWait (c : Thread nD τ) (csem k) () (owedL l) :=
  MayOwe.of_cut (L := L) (lev := lv) (lvC k) (fun p hp => by rw [Finset.mem_singleton.mp hp, L_tc]; exact Finset.mem_singleton_self _)
    (fun g u hg => by obtain ⟨p, -, rfl⟩ := owedL_pos hg; exact Finset.mem_singleton_self _)
    (fun p hp => by rw [Finset.mem_singleton.mp hp]; exact (lv_cell c k _).le)
    (fun g u hg => by obtain ⟨p, hp, rfl⟩ := owedL_pos hg; rw [lv_cell]; exact h p hp)

end Cert.KernelIdealRun
-- ==== Proof.KernelIdealRun.Steps.lean ====
/-
One rule per kind of step, at the level of what memrefs hold: a copy within the device, a copy to a peer, a wait for the
rest of a round, a signal, and the addition of a staged block to a landed one.
-/
module

public import proofs.«01_k».proof.Proof.KernelIdealRun.Sched
public import Idealize.ShloMosaic.Lib.Pipeline.Value

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-! ## A block's credit -/

theorem credit_slot (d : Bool) (i : Fin 2) : (slot d i).view.dmaCredit = N := by unfold N; cases d <;> rfl
theorem credit_ag (d : Bool) (h : Fin 3) : (ag d h).view.dmaCredit = N := by unfold N; cases d <;> rfl
theorem credit_loc (d : Bool) : (locM d).view.dmaCredit = N := by unfold N; cases d <;> rfl
theorem credit_xsend (d : Bool) (c : Dev nD) : (xsend d c).view.dmaCredit = N := by unfold N; rfl
theorem credit_piece (d : Bool) (j : Fin 4) (c : Dev nD) : (piece d j c).view.dmaCredit = N := by unfold N; rfl

variable (m : (ℓ : Loc nD τ sig) → Buf (Elt F) ℓ) (K : Dev nD × Cl → ℕ)

/-! ## What every device knows throughout -/

/-- Every cell's invariant, that every cell has reached its first round, and the levels. -/
def Env : sProp 𝕄 :=
  iprop((bigSep Finset.univ fun ck : Dev nD × Cl => cellInv ER (Rd m) (K ck) (cell ck.1 ck.2))
    ∗ (bigSep Finset.univ fun ck : Dev nD × Cl => reached ER (cell ck.1 ck.2) 0) ∗ levAts L lv)

instance Env_persistent : BI.Persistent (Env m K) := by unfold Env; infer_instance

theorem Env_inv (c : Dev nD) (k : Cl) : Env m K ⊢ cellInv ER (Rd m) (K (c, k)) (cell c k) := by
  unfold Env; iintro ⟨#H, -, -⟩
  iapply (show (bigSep Finset.univ fun ck : Dev nD × Cl => (cellInv ER (Rd m) (K ck) (cell ck.1 ck.2) : sProp 𝕄)) ⊢ cellInv ER (Rd m) (K (c, k)) (cell c k)
    from bigSep_elim (Finset.mem_univ (c, k))); iexact H
theorem Env_reached (c : Dev nD) (k : Cl) : Env m K ⊢ reached ER (cell c k) 0 := by
  unfold Env; iintro ⟨-, #H, -⟩
  iapply (show (bigSep Finset.univ fun ck : Dev nD × Cl => (reached ER (cell ck.1 ck.2) 0 : sProp 𝕄)) ⊢ reached ER (cell c k) 0
    from bigSep_elim (Finset.mem_univ (c, k))); iexact H
theorem Env_lev : Env m K ⊢ (levAts L lv : sProp 𝕄) := by
  unfold Env; iintro ⟨-, -, #H⟩; iexact H

/-- A duty's token, a cell's position at the start of a round, credit for a cell, and what a device still owes. -/
abbrev tok (c : Dev nD) (k : Cl) (r : ℕ) (i : Fin 4) : sProp 𝕄 := dutyTok ER (cell c k) r i
abbrev pos (c : Dev nD) (k : Cl) (r : ℕ) : sProp 𝕄 := iprop(atPos ER (cell c k) r ∅ 0 ∗ reached ER (cell c k) r)
abbrev crd (c : Dev nD) (k : Cl) (n : ℕ) : sProp 𝕄 := cred (tallyAt (cell c k) () n)
def Ow (c : Dev nD) (l : List Due) : sProp 𝕄 := iprop(∃ W, owes (c : Thread nD τ) (owedL l) W)

abbrev WP (c : Dev nD) (p : Pg F) (Q : PUnit → sProp 𝕄) : sProp 𝕄 :=
  wp frame (wpE (defs₀ (F := F)) 𝒱₀ (c : Thread nD τ) none) Set.univ p Q

/-- What a memref owned at contents is made of, both ways. -/
theorem owns_open (c : Dev nD) {sp : Space} (b : Memref sig .tc sp S1024x512 .f32) (q : PosShare TreeShare) (X : Blk F) :
    ownsTc c b q X ⊢ (iprop(∃ f, ⌜b.view.read (Elt F) f = X⌝ ∗ (b.view.loc (c : Thread nD τ) ↦[b.view.set]{q} f)) : sProp 𝕄) := .rfl
theorem owns_close (c : Dev nD) {sp : Space} (b : Memref sig .tc sp S1024x512 .f32) (q : PosShare TreeShare) {X : Blk F}
    {f : Buf (Elt F) (b.view.loc (c : Thread nD τ))} (h : b.view.read (Elt F) f = X) :
    (b.view.loc (c : Thread nD τ) ↦[b.view.set]{q} f : sProp 𝕄) ⊢ ownsTc c b q X := by
  subst h; exact owns_intro (c : Thread nD τ) b q f
theorem owns_any (c : Dev nD) {sp : Space} (b : Memref sig .tc sp S1024x512 .f32) (q : PosShare TreeShare) (X : Blk F) :
    (ownsTc c b q X : sProp 𝕄) ⊢ anyAt c b q := by
  unfold anyAt; iintro H; iexists X; iexact H

theorem Env_wait (c : Dev nD) (kl : Cl) (l : List Due) (hl : ∀ p ∈ l, lvC kl < lvC p.2) :
    Env m K ⊢ MayWait (c : Thread nD τ) (csem kl) () (owedL l) := by
  unfold Env
  iintro ⟨-, -, #H⟩
  iapply (mayWait (F := F) c kl l hl)
  iexact H

section Steps
variable (c : Dev nD)

/-- A copy within the device, paying one duty of one of its own cells. -/
theorem near_wp {sp sp' : Space} {src : Memref sig .tc sp S1024x512 .f32} {dst : Memref sig .tc sp' S1024x512 .f32} {sm : DmaSem sig}
    {hs : src.view.WordExact} {hd : dst.view.WordExact} {hl : sp.hostPairLowered sp' true}
    (kl : Cl) (hsm : csem kl = .dma sm) {r : ℕ} {i : Fin 4} {q : PosShare TreeShare} {X : Blk F}
    (hr : r < rounds kl) (hi : i ∈ duty kl) (ha : amt kl = N) (hN : dst.view.dmaCredit = N)
    (hpay : iprop(ownsTc c dst fullShare X ∗ ownsTc c src q X) ⊢ pay m c kl r i) {k : PUnit → Pg F} {Q : PUnit → sProp 𝕄} :
    iprop(Env m K ∗ ownsTc c src q X ∗ anyAt c dst fullShare ∗ tok c kl r i ∗ reached ER (cell c kl) r)
      ⊢ iprop((crd c kl N -∗ WP c (k ⟨⟩) Q) -∗ WP c (near src dst sm hs hd hl >>= k) Q) := by
  have hc : cell c kl = ((c : Thread nD τ), SemLoc.dma sm) := by unfold cell; rw [hsm]
  have hw : ∀ (fs : Buf (Elt F) (src.view.loc (c : Thread nD τ))) (fd : Buf (Elt F) (dst.view.loc (c : Thread nD τ))), src.view.read (Elt F) fs = X →
      iprop(cellInv ER (Rd m) (K (c, kl)) (cell c kl) ∗ (src.view.loc (c : Thread nD τ) ↦[src.view.set]{q} fs)
        ∗ (dst.view.loc (c : Thread nD τ) ↦[dst.view.set]{fullShare} fd) ∗ tok c kl r i ∗ reached ER (cell c kl) r)
      ⊢ iprop((crd c kl N -∗ WP c (k ⟨⟩) Q) -∗ WP c (near src dst sm hs hd hl >>= k) Q) := by
    intro fs fd hfs
    unfold near tok crd Prog.lift
    simp only [Prog.bind_op, Prog.bind_ret]
    rw [hc]
    refine Rounds.wp_copy_pointsTo 𝒱₀ ER (Rd m) (c : Thread nD τ) none (sem := .dma sm) (r := r) (d := i)
      (by rw [← hc, duties_lt m c kl hr]; exact hi) () N hN (by rw [← hc, amount_eq]; exact ha) ?_
    rw [← hc, payload_eq]
    refine (BIClass.sep_mono (owns_close c dst fullShare ?_) (owns_close c src q hfs)).trans hpay
    rw [View.read_write_univ, hfs]
  unfold anyAt
  iintro ⟨#HE, Hs, ⟨%Y, Hd⟩, Ht, Hr⟩ Hk
  ihave #HI := (Env_inv m K c kl) $$ HE
  ihave Hs := (owns_open c src q X) $$ Hs
  ihave Hd := (owns_open c dst fullShare Y) $$ Hd
  icases Hs with ⟨%fs, %hfs, Hs⟩
  icases Hd with ⟨%fd, %hfd, Hd⟩
  iapply (hw fs fd hfs) $$ [Hs Hd Ht Hr]
  · isplitr; · iexact HI
    isplitl [Hs]; · iexact Hs
    isplitl [Hd]; · iexact Hd
    isplitl [Ht] <;> iassumption
  iexact Hk

/-- A copy to a peer, paying a duty of the device's own send cell and one of the peer's landing cell. -/
theorem far_wp {sp : Space} {src : Memref sig .tc sp S1024x512 .f32} {n n' : Dev nD} {dst : Memref sig .tc .vmem S1024x512 .f32}
    {sS rS : DmaSem sig} {hs : src.view.WordExact} {hd : dst.view.WordExact} {hl : sp.noHostEnd .vmem}
    (ks kr : Cl) (hn : n = n') (hsS : csem ks = .dma sS) (hrS : csem kr = .dma rS) {r r' : ℕ} {q : PosShare TreeShare} {X : Blk F}
    (hr : r < rounds ks) (hi : 0 ∈ duty ks) (ha : amt ks = N) (hr' : r' < rounds kr) (hi' : 0 ∈ duty kr) (ha' : amt kr = N)
    (hN : dst.view.dmaCredit = N)
    (hpay : ownsTc c src q X ⊢ pay m c ks r 0) (hpay' : ownsTc n' dst fullShare X ⊢ pay m n' kr r' 0) {l : List Due}
    {k : PUnit → Pg F} {Q : PUnit → sProp 𝕄} :
    iprop(Env m K ∗ ownsTc c src q X ∗ anyAt n' dst fullShare ∗ tok c ks r 0 ∗ reached ER (cell c ks) r
        ∗ tok n' kr r' 0 ∗ reached ER (cell n' kr) r' ∗ Ow c ((n', kr) :: l))
      ⊢ iprop(((crd c ks N ∗ Ow c l) -∗ WP c (k ⟨⟩) Q) -∗ WP c (far src n dst sS rS hs hd hl >>= k) Q) := by
  subst hn
  have hc : cell c ks = ((c : Thread nD τ), SemLoc.dma sS) := by unfold cell; rw [hsS]
  have hc' : cell n kr = ((n : Thread nD τ), SemLoc.dma rS) := by unfold cell; rw [hrS]
  have hO : owedL ((n, kr) :: l) = owedL l + tallyAt (cell n kr) () N := by rw [← ha']; rfl
  have hw : ∀ (fs : Buf (Elt F) (src.view.loc (c : Thread nD τ))) (fd : Buf (Elt F) (dst.view.loc (n : Thread nD τ))) (W : Waits sig Unit),
      src.view.read (Elt F) fs = X →
      iprop(cellInv ER (Rd m) (K (c, ks)) (cell c ks) ∗ cellInv ER (Rd m) (K (n, kr)) (cell n kr)
        ∗ (src.view.loc (c : Thread nD τ) ↦[src.view.set]{q} fs)
        ∗ (dst.view.loc (n : Thread nD τ) ↦[dst.view.set]{fullShare} fd) ∗ owes (c : Thread nD τ) (owedL ((n, kr) :: l)) W
        ∗ tok c ks r 0 ∗ reached ER (cell c ks) r ∗ tok n kr r' 0 ∗ reached ER (cell n kr) r')
      ⊢ iprop(((crd c ks N ∗ owes (c : Thread nD τ) (owedL l) W) -∗ WP c (k ⟨⟩) Q) -∗ WP c (far src n dst sS rS hs hd hl >>= k) Q) := by
    intro fs fd W hfs
    unfold far tok crd Prog.lift
    simp only [Prog.bind_op, Prog.bind_ret]
    rw [hO, hc, hc']
    refine Rounds.wp_send_pointsTo 𝒱₀ ER (Rd m) (c : Thread nD τ) none (c' := (n : Thread nD τ)) (sS := .dma sS) (sem := .dma rS) (r₁ := r) (d₁ := (0 : Fin 4)) (r₂ := r') (d₂ := (0 : Fin 4))
      (by rw [← hc, duties_lt m c ks hr]; exact hi) (by rw [← hc', duties_lt m n kr hr']; exact hi') () () N hN
      (by rw [← hc, amount_eq]; exact ha) (by rw [← hc', amount_eq]; exact ha') (owedL l) rfl ?_ ?_
    · rw [← hc, payload_eq]; exact (owns_close c src q hfs).trans hpay
    · rw [← hc', payload_eq]; refine (owns_close n dst fullShare ?_).trans hpay'
      rw [View.read_write_univ, hfs]
  unfold anyAt Ow
  iintro ⟨#HE, Hs, ⟨%Y, Hd⟩, Ht, Hr, Ht', Hr', ⟨%W, HO⟩⟩ Hk
  ihave #HI := (Env_inv m K c ks) $$ HE
  ihave #HI' := (Env_inv m K n kr) $$ HE
  ihave Hs := (owns_open c src q X) $$ Hs
  ihave Hd := (owns_open n dst fullShare Y) $$ Hd
  icases Hs with ⟨%fs, %hfs, Hs⟩
  icases Hd with ⟨%fd, %hfd, Hd⟩
  iapply (hw fs fd W hfs) $$ [Hs Hd Ht Hr Ht' Hr' HO]
  · isplitr; · iexact HI
    isplitr; · iexact HI'
    isplitl [Hs]; · iexact Hs
    isplitl [Hd]; · iexact Hd
    isplitl [HO]; · iexact HO
    isplitl [Ht]; · iexact Ht
    isplitl [Hr]; · iexact Hr
    isplitl [Ht'] <;> iassumption
  iintro ⟨Hc, HO⟩
  iapply Hk
  isplitl [Hc]; · iexact Hc
  iexists W; iexact HO

/-- A wait for what is left of a cell's round: every payload of it not yet taken comes back. -/
theorem await_wp {sp sp' : Space} {sm : DmaSem sig} {src : Memref sig .tc sp S1024x512 .f32} {dst : Memref sig .tc sp' S1024x512 .f32}
    {hs : src.view.WordExact} {hd : dst.view.WordExact}
    (kl : Cl) (hsm : csem kl = .dma sm) {r n : ℕ} {T : Finset (Fin 4)} {l : List Due}
    (hr : r < rounds kl) (hN : dst.view.dmaCredit = N) (hk : n + N = (duty kl).card * amt kl) (hl : ∀ p ∈ l, lvC kl < lvC p.2)
    {k : PUnit → Pg F} {Q : PUnit → sProp 𝕄} :
    iprop(Env m K ∗ crd c kl N ∗ Ow c l ∗ atPos ER (cell c kl) r T n)
      ⊢ iprop(((Ow c l ∗ pos c kl (r + 1) ∗ bigSep (duty kl \ T) fun i => pay m c kl r i) -∗ WP c (k ⟨⟩) Q)
          -∗ WP c (await sm src dst hs hd >>= k) Q) := by
  have hc : cell c kl = ((c : Thread nD τ), SemLoc.dma sm) := by unfold cell; rw [hsm]
  have hp : (fun i => (Rd (F := F) m).payload (cell c kl) r i) = fun i => pay m c kl r i := funext fun i => payload_eq m c kl r i
  have hw : ∀ (W : Waits sig Unit),
      iprop(cellInv ER (Rd m) (K (c, kl)) (cell c kl) ∗ crd c kl N ∗ owes (c : Thread nD τ) (owedL l) W
        ∗ MayWait (c : Thread nD τ) (csem kl) () (owedL l) ∗ atPos ER (cell c kl) r T n)
      ⊢ iprop(((owes (c : Thread nD τ) (owedL l) (insert (csem kl, ()) W) ∗ atPos ER (cell c kl) (r + 1) ∅ 0 ∗ reached ER (cell c kl) (r + 1)
          ∗ bigSep (duty kl \ T) fun i => pay m c kl r i) -∗ WP c (k ⟨⟩) Q) -∗ WP c (await sm src dst hs hd >>= k) Q) := by
    intro W
    unfold await crd Prog.lift
    simp only [Prog.bind_op, Prog.bind_ret]
    rw [← hp, ← duties_lt m c kl hr, hsm, hc]
    refine Rounds.wp_wait_rest_token 𝒱₀ ER (Rd m) (c : Thread nD τ) none ?_ (Set.mem_univ _) ()
      (by rw [← hc, expect_eq m c kl hr]; exact hk)
    rw [← hN]
    exact wpE_waitDma2_eq 𝒱₀ (c : Thread nD τ) none Set.univ
  unfold Ow
  iintro ⟨#HE, Hc, ⟨%W, HO⟩, Hp⟩ Hk
  ihave #HI := (Env_inv m K c kl) $$ HE
  ihave HM := (Env_wait m K c kl l hl) $$ HE
  iapply (hw W) $$ [Hc HO HM Hp]
  · isplitr; · iexact HI
    isplitl [Hc]; · iexact Hc
    isplitl [HO]; · iexact HO
    isplitl [HM] <;> iassumption
  iintro ⟨HO, Hp, Hr, Hpay⟩
  iapply Hk
  isplitl [HO]; · iexists _; iexact HO
  isplitl [Hp Hr]; · isplitl [Hp] <;> iassumption
  iexact Hpay

/-- A wait for one instalment of a round that others still owe to: the payloads of some of its duties come back. -/
theorem await_part {sp sp' : Space} {sm : DmaSem sig} {src : Memref sig .tc sp S1024x512 .f32} {dst : Memref sig .tc sp' S1024x512 .f32}
    {hs : src.view.WordExact} {hd : dst.view.WordExact}
    (kl : Cl) (hsm : csem kl = .dma sm) {r n : ℕ} {T : Finset (Fin 4)} {l : List Due}
    (hr : r < rounds kl) (hN : dst.view.dmaCredit = N) (hl : ∀ p ∈ l, lvC kl < lvC p.2)
    {k : PUnit → Pg F} {Q : PUnit → sProp 𝕄} :
    iprop(Env m K ∗ crd c kl N ∗ Ow c l ∗ atPos ER (cell c kl) r T n)
      ⊢ iprop(((∃ S, ⌜T ⊆ S ∧ S ⊆ duty kl⌝ ∗ Ow c l ∗ atPos ER (cell c kl) r S (n + N) ∗ bigSep (S \ T) fun i => pay m c kl r i) -∗ WP c (k ⟨⟩) Q)
          -∗ WP c (await sm src dst hs hd >>= k) Q) := by
  have hc : cell c kl = ((c : Thread nD τ), SemLoc.dma sm) := by unfold cell; rw [hsm]
  have hp : (fun i => (Rd (F := F) m).payload (cell c kl) r i) = fun i => pay m c kl r i := funext fun i => payload_eq m c kl r i
  have hw : ∀ (W : Waits sig Unit),
      iprop(cellInv ER (Rd m) (K (c, kl)) (cell c kl) ∗ crd c kl N ∗ owes (c : Thread nD τ) (owedL l) W
        ∗ MayWait (c : Thread nD τ) (csem kl) () (owedL l) ∗ atPos ER (cell c kl) r T n)
      ⊢ iprop((∀ S, (⌜T ⊆ S ∧ S ⊆ duty kl ∧ n + N + (duty kl \ S).card ≤ (Rd (F := F) m).expect (cell c kl) r⌝
          ∗ owes (c : Thread nD τ) (owedL l) (W ∪ {(csem kl, ())}) ∗ atPos ER (cell c kl) r S (n + N)
          ∗ bigSep (S \ T) fun i => pay m c kl r i) -∗ WP c (k ⟨⟩) Q) -∗ WP c (await sm src dst hs hd >>= k) Q) := by
    intro W
    unfold await crd Prog.lift
    simp only [Prog.bind_op, Prog.bind_ret]
    rw [← hp, ← duties_lt m c kl hr, hsm, hc]
    refine Rounds.wp_wait 𝒱₀ ER (Rd m) (c : Thread nD τ) none ?_ (Set.mem_univ _) (cr := Finsupp.single () N) {(SemLoc.dma sm, ())}
      (by rw [Util.total_single]) (image_single_subset _ () N)
    rw [← hN]
    exact wpE_waitDma2_eq 𝒱₀ (c : Thread nD τ) none Set.univ
  unfold Ow
  iintro ⟨#HE, Hc, ⟨%W, HO⟩, Hp⟩ Hk
  ihave #HI := (Env_inv m K c kl) $$ HE
  ihave HM := (Env_wait m K c kl l hl) $$ HE
  iapply (hw W) $$ [Hc HO HM Hp]
  · isplitr; · iexact HI
    isplitl [Hc]; · iexact Hc
    isplitl [HO]; · iexact HO
    isplitl [HM] <;> iassumption
  iintro %S ⟨%hS, HO, Hp, Hpay⟩
  iapply Hk
  iexists S
  isplitr; · ipureintro; exact ⟨hS.1, hS.2.1⟩
  isplitl [HO]; · iexists _; iexact HO
  isplitl [Hp] <;> iassumption

/-- A signal of one unit to a peer's cell. -/
theorem signal_wp {n n' : Dev nD} {sm : Sem sig} (kl : Cl) (hn : n = n') (hsm : csem kl = .reg sm) {r : ℕ} {i : Fin 4} {l : List Due}
    (hr : r < rounds kl) (hi : i ∈ duty kl) (ha : amt kl = 1) {k : PUnit → Pg F} {Q : PUnit → sProp 𝕄} :
    iprop(Env m K ∗ pay m n' kl r i ∗ tok n' kl r i ∗ reached ER (cell n' kl) r ∗ Ow c ((n', kl) :: l))
      ⊢ iprop((Ow c l -∗ WP c (k ⟨⟩) Q) -∗ WP c (semSignalWord n sm 1#32 >>= k) Q) := by
  subst hn
  have hc : cell n kl = ((n : Thread nD τ), SemLoc.reg sm) := by unfold cell; rw [hsm]
  have hO : owedL ((n, kl) :: l) = owedL l + tallyAt (cell n kl) () 1 := by rw [← ha]; rfl
  have hw : ∀ (W : Waits sig Unit),
      iprop(cellInv ER (Rd m) (K (n, kl)) (cell n kl) ∗ owes (c : Thread nD τ) (owedL ((n, kl) :: l)) W ∗ tok n kl r i
        ∗ pay m n kl r i ∗ reached ER (cell n kl) r)
      ⊢ iprop((owes (c : Thread nD τ) (owedL l) W -∗ WP c (k ⟨⟩) Q) -∗ WP c (semSignalWord n sm 1#32 >>= k) Q) := by
    intro W
    unfold tok
    rw [show (semSignalWord n sm 1#32 >>= k : Pg F) = Prog.op (.semSignal (n : Thread nD τ) sm 1) k from rfl]
    rw [hO, ← payload_eq m n kl r i, hc]
    exact Rounds.wp_signal 𝒱₀ ER (Rd m) (c : Thread nD τ) none (by rw [← hc, duties_lt m n kl hr]; exact hi)
      (by rw [← hc, amount_eq]; exact ha) () (owedL l) rfl
  unfold Ow
  iintro ⟨#HE, Hpay, Ht, Hr, ⟨%W, HO⟩⟩ Hk
  ihave #HI := (Env_inv m K n kl) $$ HE
  iapply (hw W) $$ [HO Hpay Ht Hr]
  · isplitr; · iexact HI
    isplitl [HO]; · iexact HO
    isplitl [Ht]; · iexact Ht
    isplitl [Hpay] <;> iassumption
  iintro HO
  iapply Hk
  iexists W; iexact HO

/-- A wait on a signalled cell for its whole round. -/
theorem sem_wait_wp {sm : Sem sig} {w : BitVec 32} (kl : Cl) (hsm : csem kl = .reg sm) {r n : ℕ} {l : List Due} (hw0 : w.toInt = (n : ℤ))
    (hr : r < rounds kl) (hk : n = (duty kl).card * amt kl) (hl : ∀ p ∈ l, lvC kl < lvC p.2)
    {k : PUnit → Pg F} {Q : PUnit → sProp 𝕄} :
    iprop(Env m K ∗ crd c kl n ∗ Ow c l ∗ atPos ER (cell c kl) r ∅ 0)
      ⊢ iprop(((Ow c l ∗ pos c kl (r + 1) ∗ bigSep (duty kl) fun i => pay m c kl r i) -∗ WP c (k ⟨⟩) Q)
          -∗ WP c (semWaitWord sm w >>= k) Q) := by
  have hc : cell c kl = ((c : Thread nD τ), SemLoc.reg sm) := by unfold cell; rw [hsm]
  have hp : (fun i => (Rd (F := F) m).payload (cell c kl) r i) = fun i => pay m c kl r i := funext fun i => payload_eq m c kl r i
  have hw : ∀ (W : Waits sig Unit),
      iprop(cellInv ER (Rd m) (K (c, kl)) (cell c kl) ∗ crd c kl n ∗ owes (c : Thread nD τ) (owedL l) W
        ∗ MayWait (c : Thread nD τ) (csem kl) () (owedL l) ∗ atPos ER (cell c kl) r ∅ 0)
      ⊢ iprop(((owes (c : Thread nD τ) (owedL l) (insert (csem kl, ()) W) ∗ atPos ER (cell c kl) (r + 1) ∅ 0 ∗ reached ER (cell c kl) (r + 1)
          ∗ bigSep (duty kl \ ∅) fun i => pay m c kl r i) -∗ WP c (k ⟨⟩) Q) -∗ WP c (semWaitWord sm w >>= k) Q) := by
    intro W
    unfold crd
    rw [show (semWaitWord sm w >>= k : Pg F) = Prog.op (.semWait sm w.toInt) k from rfl, hw0]
    rw [← hp, ← duties_lt m c kl hr, hsm, hc]
    exact Rounds.wp_wait_rest_token 𝒱₀ ER (Rd m) (c : Thread nD τ) none (wpE_semWait_eq 𝒱₀ (c : Thread nD τ) none Set.univ) (Set.mem_univ _) ()
      (by rw [← hc, expect_eq m c kl hr, Nat.zero_add]; exact hk)
  unfold Ow
  iintro ⟨#HE, Hc, ⟨%W, HO⟩, Hp⟩ Hk
  ihave #HI := (Env_inv m K c kl) $$ HE
  ihave HM := (Env_wait m K c kl l hl) $$ HE
  iapply (hw W) $$ [Hc HO HM Hp]
  · isplitr; · iexact HI
    isplitl [Hc]; · iexact Hc
    isplitl [HO]; · iexact HO
    isplitl [HM] <;> iassumption
  rw [Finset.sdiff_empty]
  iintro ⟨HO, Hp, Hr, Hpay⟩
  iapply Hk
  isplitl [HO]; · iexists _; iexact HO
  isplitl [Hp Hr]; · isplitl [Hp] <;> iassumption
  iexact Hpay

/-- A cell past its last round is empty. -/
theorem cell_done (kl : Cl) {r : ℕ} (h : rounds kl ≤ r) : iprop(Env m K ∗ pos c kl r) ⊢ |={Set.univ}=> (semVal (cell c kl) 0 : sProp 𝕄) := by
  iintro ⟨#HE, ⟨Hp, -⟩⟩
  ihave #HI := (Env_inv m K c kl) $$ HE
  iapply (Rounds.cell_close ER (Rd m) (Set.mem_univ (K (c, kl))) (fun h => h) (R := r) (fun r' h' => duties_ge m c kl (h.trans h')))
  isplitr; · iexact HI
  iexact Hp

theorem read_slot (d : Bool) (i : Fin 2) (f : ((commM d).view.ty).Contents (Elt F)) :
    (slot d i).view.read (Elt F) f = shapeCast S1024x512 (((commM d).access (rSlot i)).read (Elt F) f) shapeCasts_S1x1024x512_S1024x512 := rfl

theorem set_slot (d : Bool) (i : Fin 2) : (slot d i).view.set = ((commM d).access (rSlot i)).set :=
  Memref.set_view_squeeze _ _

theorem store_load_slot (d : Bool) (i : Fin 2) (f : ((commM d).view.ty).Contents (Elt F)) (g : Blk F) :
    (slot d i).view.read (Elt F) (((commM d).access (rSlot i)).write (Elt F) f
      (k0_pay1 (((commM d).access (rSlot i)).read (Elt F) f) g) Finset.univ) = addB ((slot d i).view.read (Elt F) f) g := by
  rw [read_slot, View.read_write_univ, read_slot]
  unfold k0_pay1 addB
  exact shapeCast_shapeCast _ _ _

theorem read_loc (d : Bool) (g : ((locM d).view.ty).Contents (Elt F)) : ((locM d).access rLoc).read (Elt F) g = (locM d).view.read (Elt F) g := by
  have h0 : (![0, 0] : Fin 2 → ℕ) = fun _ => 0 := by funext a; fin_cases a <;> rfl
  cases d
  · exact Memref.read_access_unit_zero (Elt F) cc0_scratch3 h0 inb_S1024x512_S1024x512_0_0 g
  · exact Memref.read_access_unit_zero (Elt F) cc0_scratch2 h0 inb_S1024x512_S1024x512_0_0 g

/-- The addition of a staged block to a landed one, the sum stored where the landing was. -/
theorem add_wp (d : Bool) (i : Fin 2) (X Y : Blk F) {k : PUnit → Pg F} {Q : PUnit → sProp 𝕄} :
    iprop(ownsTc c (slot d i) fullShare X ∗ ownsTc c (locM d) fullShare Y)
      ⊢ iprop(((ownsTc c (slot d i) fullShare (addB X Y) ∗ ownsTc c (locM d) fullShare Y) -∗ WP c (k ⟨⟩) Q) -∗ WP c (pAdd d i >>= k) Q) := by
  unfold pAdd Prog.lift
  simp only [Prog.bind_op, Prog.bind_ret]
  iintro ⟨Hs, Hl⟩ Hk
  ihave Hs := (owns_open c (slot d i) fullShare X) $$ Hs
  ihave Hl := (owns_open c (locM d) fullShare Y) $$ Hl
  icases Hs with ⟨%f, %hf, Hs⟩
  icases Hl with ⟨%g, %hg, Hl⟩
  iapply (wp_load_rect 𝒱₀ (c : Thread nD τ) none Set.univ (m := commM d) (r := rSlot i) (S := (slot d i).view.set) (set_slot d i).symm.subset) $$ Hs
  iintro Hs
  iapply (wp_load_rect 𝒱₀ (c : Thread nD τ) none Set.univ (m := locM d) (r := rLoc) (S := (locM d).view.set) (View.set_slice_subset _ _)) $$ Hl
  iintro Hl
  iapply (wp_load_rect 𝒱₀ (c : Thread nD τ) none Set.univ (m := commM d) (r := rSlot i) (S := (slot d i).view.set) (set_slot d i).symm.subset) $$ Hs
  iintro Hs
  iapply (wp_store 𝒱₀ (c : Thread nD τ) none Set.univ (m := commM d) (r := rSlot i) (S := (slot d i).view.set) (set_slot d i).symm.subset) $$ Hs
  iintro Hs
  iapply Hk
  isplitl [Hs]
  · have hX : (slot d i).view.read (Elt F) (((commM d).access (rSlot i)).write (Elt F) f
        (k0_pay1 (((commM d).access (rSlot i)).read (Elt F) f) (((locM d).access rLoc).read (Elt F) g)) Finset.univ) = addB X Y := by
      rw [store_load_slot, read_loc, hf, hg]
    iapply (owns_close c (slot d i) fullShare hX); iexact Hs
  · iapply (owns_close c (locM d) fullShare hg); iexact Hl

end Steps

end Cert.KernelIdealRun
-- ==== Proof.KernelIdealRun.Blocks.lean ====
/-
The kernel's blocks of steps, each for both directions at once: what a block needs, and what it leaves.
-/
module

public import proofs.«01_k».proof.Proof.KernelIdealRun.Steps
public import Idealize.ShloMosaic.Lib.MemrefSat

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ) (c : Dev nD) (d : Bool)

theorem land0_zn : land0 m d (zn d c) = sendV m d c := by unfold land0; rw [zn_zn']
theorem land1_zn : land1 m d (zn d c) = sum0 m d c := by unfold land1; rw [zn_zn']
theorem land2_zn : land2 m d (zn d c) = sum1 m d c := by unfold land2; rw [zn_zn']
theorem gath0_an : gath0 m d (an d c) = fin m d c := by unfold gath0; rw [an_an']
theorem gath1_an : gath1 m d (an d c) = gath0 m d c := by unfold gath1; rw [an_an']
theorem gath2_an : gath2 m d (an d c) = gath1 m d c := by unfold gath2; rw [an_an']

section Pays
variable (r : ℕ) (i : Fin 4)
theorem pay_bar0 : pay m c .bar r 0 = iprop(anyAt (zn true c) (slot true 0) fullShare ∗ anyAt (zn true c) (slot true 1) fullShare) := rfl
theorem pay_bar1 : pay m c .bar r 1 = iprop(anyAt (zn false c) (slot false 0) fullShare ∗ anyAt (zn false c) (slot false 1) fullShare) := rfl
theorem pay_bar2 : pay m c .bar r 2 = iprop(anyAt (an true c) (ag true 0) fullShare ∗ anyAt (an true c) (ag true 1) fullShare ∗ anyAt (an true c) (ag true 2) fullShare) := rfl
theorem pay_bar3 : pay m c .bar r 3 = iprop(anyAt (an false c) (ag false 0) fullShare ∗ anyAt (an false c) (ag false 1) fullShare ∗ anyAt (an false c) (ag false 2) fullShare) := rfl
theorem pay_zs1 : pay m c (.zs d) 1 i = anyAt c (slot d 0) fullShare := rfl
theorem pay_zs2 : pay m c (.zs d) 2 i = anyAt c (slot d 1) fullShare := rfl
theorem pay_zr0 : pay m c (.zr d 0) r i = ownsTc c (slot d 0) fullShare (land0 m d c) := rfl
theorem pay_zr1 : pay m c (.zr d 1) r i = ownsTc c (slot d 1) fullShare (land1 m d c) := rfl
theorem pay_zr2 : pay m c (.zr d 2) r i = ownsTc c (slot d 0) fullShare (land2 m d c) := rfl
theorem pay_as0 : pay m c (.as d) 0 i = anyAt c (slot d 0) fullShare.left := rfl
theorem pay_as1 : pay m c (.as d) 1 i = anyAt c (ag d 0) fullShare.left := rfl
theorem pay_as2 : pay m c (.as d) 2 i = anyAt c (ag d 1) fullShare.left := rfl
theorem pay_ar0 : pay m c (.ar d 0) r i = ownsTc c (ag d 0) fullShare (gath0 m d c) := rfl
theorem pay_ar1 : pay m c (.ar d 1) r i = ownsTc c (ag d 1) fullShare (gath1 m d c) := rfl
theorem pay_ar2 : pay m c (.ar d 2) r i = ownsTc c (ag d 2) fullShare (gath2 m d c) := rfl
theorem pay_loc0 : pay m c (.loc d) 0 i = ownsTc c (locM d) fullShare (stgV m d 0 c) := rfl
theorem pay_loc1 : pay m c (.loc d) 1 i = ownsTc c (locM d) fullShare (stgV m d 1 c) := rfl
theorem pay_loc2 : pay m c (.loc d) 2 i = ownsTc c (locM d) fullShare (stgV m d 2 c) := rfl
theorem pay_out0 : pay m c (.out d) r 0 = iprop(ownsTc c (piece d 0 c) fullShare (fin m d c) ∗ anyAt c (slot d 0) fullShare.right) := rfl
theorem pay_out1 : pay m c (.out d) r 1 = iprop(ownsTc c (piece d 1 c) fullShare (gath0 m d c) ∗ anyAt c (ag d 0) fullShare.right) := rfl
theorem pay_out2 : pay m c (.out d) r 2 = iprop(ownsTc c (piece d 2 c) fullShare (gath1 m d c) ∗ anyAt c (ag d 1) fullShare.right) := rfl
theorem pay_out3 : pay m c (.out d) r 3 = iprop(ownsTc c (piece d 3 c) fullShare (gath2 m d c) ∗ anyAt c (ag d 2) fullShare.right) := rfl
theorem pay_free : pay m c (.free d) r i = anyAt (zn d c) (slot d 0) fullShare := rfl
end Pays

variable {m c d}

theorem rounds_pos (k : Cl) : 0 < rounds k := by cases k <;> exact Nat.succ_pos _
theorem lt13 : 1 < 3 := by decide
theorem lt23 : 2 < 3 := by decide
theorem mem0 : (0 : Fin 4) ∈ ({0} : Finset (Fin 4)) := Finset.mem_singleton_self 0

/-- A wait for the one duty of a cell's round. -/
theorem await0 {sp sp' : Space} {sm : DmaSem sig} {src : Memref sig .tc sp S1024x512 .f32} {dst : Memref sig .tc sp' S1024x512 .f32}
    {hs : src.view.WordExact} {hd : dst.view.WordExact}
    (kl : Cl) (hsm : csem kl = .dma sm) (h0 : duty kl = {0}) (ha : amt kl = N) {r : ℕ} {l : List Due}
    (hr : r < rounds kl) (hN : dst.view.dmaCredit = N) (hl : ∀ p ∈ l, lvC kl < lvC p.2)
    {k : PUnit → Pg F} {Q : PUnit → sProp 𝕄} :
    iprop(Env m K ∗ crd c kl N ∗ pos c kl r ∗ Ow c l)
      ⊢ iprop(((Ow c l ∗ pos c kl (r + 1) ∗ pay m c kl r 0) -∗ WP c (k ⟨⟩) Q) -∗ WP c (await sm src dst hs hd >>= k) Q) := by
  have hb : (bigSep (duty kl \ ∅) fun i => pay m c kl r i) ⊢ (pay m c kl r 0 : sProp 𝕄) := by
    rw [Finset.sdiff_empty, h0, bigSep_singleton]
  iintro ⟨#HE, Hc, ⟨Hp, -⟩, HO⟩ Hk
  iapply (await_wp m K c kl hsm (T := ∅) (n := 0) (r := r) (l := l) hr hN (by rw [h0, ha, Finset.card_singleton, Nat.zero_add, Nat.one_mul]) hl) $$ [Hc Hp HO]
  · isplitr; · iexact HE
    isplitl [Hc]; · iexact Hc
    isplitl [HO] <;> iassumption
  iintro ⟨HO, Hp, Hb⟩
  iapply Hk
  isplitl [HO]; · iexact HO
  isplitl [Hp]; · iexact Hp
  iapply hb; iexact Hb

/-! ## The z ring -/

theorem send0_wp {q : PosShare TreeShare} {l : List Due} {k : PUnit → Pg F} {Q : PUnit → sProp 𝕄} :
    iprop(Env m K ∗ ownsTc c (xsend d c) q (sendV m d c) ∗ anyAt (zn d c) (slot d 0) fullShare ∗ tok c (.zs d) 0 0
        ∗ tok (zn d c) (.zr d 0) 0 0 ∗ Ow c ((zn d c, .zr d 0) :: l))
      ⊢ iprop(((crd c (.zs d) N ∗ Ow c l) -∗ WP c (k ⟨⟩) Q) -∗ WP c (pSend0 c d >>= k) Q) := by
  unfold pSend0
  iintro ⟨#HE, Hs, Hd, Ht, Ht', HO⟩ Hk
  ihave #Hr := (Env_reached m K c (.zs d)) $$ HE
  ihave #Hr' := (Env_reached m K (zn d c) (.zr d 0)) $$ HE
  iapply (far_wp m K c (.zs d) (.zr d 0) (zDev_eq c d 0) rfl rfl (r := 0) (r' := 0) (X := sendV m d c) (q := q) (l := l) (rounds_pos _) mem0 rfl (rounds_pos _) mem0 rfl
    (credit_slot d 0) (by iintro -; iempintro) (by rw [pay_zr0, land0_zn])) $$ [Hs Hd Ht Ht' HO]
  · isplitr; · iexact HE
    isplitl [Hs]; · iexact Hs
    isplitl [Hd]; · iexact Hd
    isplitl [Ht]; · iexact Ht
    isplitr; · iexact Hr
    isplitl [Ht']; · iexact Ht'
    isplitr; · iexact Hr'
    iexact HO
  iexact Hk

theorem send1_wp {l : List Due} {k : PUnit → Pg F} {Q : PUnit → sProp 𝕄} :
    iprop(Env m K ∗ ownsTc c (slot d 0) fullShare (sum0 m d c) ∗ anyAt (zn d c) (slot d 1) fullShare ∗ tok c (.zs d) 1 0 ∗ pos c (.zs d) 1
        ∗ tok (zn d c) (.zr d 1) 0 0 ∗ Ow c ((zn d c, .zr d 1) :: l))
      ⊢ iprop(((crd c (.zs d) N ∗ pos c (.zs d) 1 ∗ Ow c l) -∗ WP c (k ⟨⟩) Q) -∗ WP c (pSend1 c d >>= k) Q) := by
  unfold pSend1
  iintro ⟨#HE, Hs, Hd, Ht, ⟨Hp, #Hr⟩, Ht', HO⟩ Hk
  ihave #Hr' := (Env_reached m K (zn d c) (.zr d 1)) $$ HE
  iapply (far_wp m K c (.zs d) (.zr d 1) (zDev_eq c d 1) rfl rfl (r := 1) (r' := 0) (X := sum0 m d c) (q := fullShare) (l := l) lt13 mem0 rfl (rounds_pos _) mem0 rfl
    (credit_slot d 1) (owns_any c (slot d 0) fullShare _) (by rw [pay_zr1, land1_zn])) $$ [Hs Hd Ht Ht' HO]
  · isplitr; · iexact HE
    isplitl [Hs]; · iexact Hs
    isplitl [Hd]; · iexact Hd
    isplitl [Ht]; · iexact Ht
    isplitr; · iexact Hr
    isplitl [Ht']; · iexact Ht'
    isplitr; · iexact Hr'
    iexact HO
  iintro ⟨Hc, HO⟩
  iapply Hk
  isplitl [Hc]; · iexact Hc
  isplitl [Hp]
  · isplitl [Hp]; · iexact Hp
    iexact Hr
  iexact HO

theorem send2_wp {l : List Due} {k : PUnit → Pg F} {Q : PUnit → sProp 𝕄} :
    iprop(Env m K ∗ ownsTc c (slot d 1) fullShare (sum1 m d c) ∗ anyAt (zn d c) (slot d 0) fullShare ∗ tok c (.zs d) 2 0 ∗ pos c (.zs d) 2
        ∗ tok (zn d c) (.zr d 2) 0 0 ∗ Ow c ((zn d c, .zr d 2) :: l))
      ⊢ iprop(((crd c (.zs d) N ∗ pos c (.zs d) 2 ∗ Ow c l) -∗ WP c (k ⟨⟩) Q) -∗ WP c (pSend2 c d >>= k) Q) := by
  unfold pSend2
  iintro ⟨#HE, Hs, Hd, Ht, ⟨Hp, #Hr⟩, Ht', HO⟩ Hk
  ihave #Hr' := (Env_reached m K (zn d c) (.zr d 2)) $$ HE
  iapply (far_wp m K c (.zs d) (.zr d 2) (zDev_eq c d 2) rfl rfl (r := 2) (r' := 0) (X := sum1 m d c) (q := fullShare) (l := l) lt23 mem0 rfl (rounds_pos _) mem0 rfl
    (credit_slot d 0) (owns_any c (slot d 1) fullShare _) (by rw [pay_zr2, land2_zn])) $$ [Hs Hd Ht Ht' HO]
  · isplitr; · iexact HE
    isplitl [Hs]; · iexact Hs
    isplitl [Hd]; · iexact Hd
    isplitl [Ht]; · iexact Ht
    isplitr; · iexact Hr
    isplitl [Ht']; · iexact Ht'
    isplitr; · iexact Hr'
    iexact HO
  iintro ⟨Hc, HO⟩
  iapply Hk
  isplitl [Hc]; · iexact Hc
  isplitl [Hp]
  · isplitl [Hp]; · iexact Hp
    iexact Hr
  iexact HO

theorem stage0_wp {q : PosShare TreeShare} {k : PUnit → Pg F} {Q : PUnit → sProp 𝕄} :
    iprop(Env m K ∗ ownsTc c (xstage d 0 c) q (stgV m d 0 c) ∗ anyAt c (locM d) fullShare ∗ tok c (.loc d) 0 0 ∗ pos c (.loc d) 0)
      ⊢ iprop(((crd c (.loc d) N ∗ pos c (.loc d) 0) -∗ WP c (k ⟨⟩) Q) -∗ WP c (pStage c d 0 >>= k) Q) := by
  unfold pStage
  iintro ⟨#HE, Hs, Hd, Ht, ⟨Hp, #Hr⟩⟩ Hk
  iapply (near_wp m K c (.loc d) rfl (r := 0) (i := 0) (X := stgV m d 0 c) (q := q) (rounds_pos _) mem0 rfl (credit_loc d)
    (by rw [pay_loc0]; iintro ⟨H, -⟩; iexact H)) $$ [Hs Hd Ht]
  · isplitr; · iexact HE
    isplitl [Hs]; · iexact Hs
    isplitl [Hd]; · iexact Hd
    isplitl [Ht]; · iexact Ht
    iexact Hr
  iintro Hc
  iapply Hk
  isplitl [Hc]; · iexact Hc
  isplitl [Hp]; · iexact Hp
  iexact Hr

theorem stage1_wp {q : PosShare TreeShare} {k : PUnit → Pg F} {Q : PUnit → sProp 𝕄} :
    iprop(Env m K ∗ ownsTc c (xstage d 1 c) q (stgV m d 1 c) ∗ anyAt c (locM d) fullShare ∗ tok c (.loc d) 1 0 ∗ pos c (.loc d) 1)
      ⊢ iprop(((crd c (.loc d) N ∗ pos c (.loc d) 1) -∗ WP c (k ⟨⟩) Q) -∗ WP c (pStage c d 1 >>= k) Q) := by
  unfold pStage
  iintro ⟨#HE, Hs, Hd, Ht, ⟨Hp, #Hr⟩⟩ Hk
  iapply (near_wp m K c (.loc d) rfl (r := 1) (i := 0) (X := stgV m d 1 c) (q := q) lt13 mem0 rfl (credit_loc d)
    (by rw [pay_loc1]; iintro ⟨H, -⟩; iexact H)) $$ [Hs Hd Ht]
  · isplitr; · iexact HE
    isplitl [Hs]; · iexact Hs
    isplitl [Hd]; · iexact Hd
    isplitl [Ht]; · iexact Ht
    iexact Hr
  iintro Hc
  iapply Hk
  isplitl [Hc]; · iexact Hc
  isplitl [Hp]; · iexact Hp
  iexact Hr

theorem stage2_wp {q : PosShare TreeShare} {k : PUnit → Pg F} {Q : PUnit → sProp 𝕄} :
    iprop(Env m K ∗ ownsTc c (xstage d 2 c) q (stgV m d 2 c) ∗ anyAt c (locM d) fullShare ∗ tok c (.loc d) 2 0 ∗ pos c (.loc d) 2)
      ⊢ iprop(((crd c (.loc d) N ∗ pos c (.loc d) 2) -∗ WP c (k ⟨⟩) Q) -∗ WP c (pStage c d 2 >>= k) Q) := by
  unfold pStage
  iintro ⟨#HE, Hs, Hd, Ht, ⟨Hp, #Hr⟩⟩ Hk
  iapply (near_wp m K c (.loc d) rfl (r := 2) (i := 0) (X := stgV m d 2 c) (q := q) lt23 mem0 rfl (credit_loc d)
    (by rw [pay_loc2]; iintro ⟨H, -⟩; iexact H)) $$ [Hs Hd Ht]
  · isplitr; · iexact HE
    isplitl [Hs]; · iexact Hs
    isplitl [Hd]; · iexact Hd
    isplitl [Ht]; · iexact Ht
    iexact Hr
  iintro Hc
  iapply Hk
  isplitl [Hc]; · iexact Hc
  isplitl [Hp]; · iexact Hp
  iexact Hr

theorem fin0_wp {l : List Due} (hl : ∀ p ∈ l, lvC (.zr d 0) < lvC p.2) {k : PUnit → Pg F} {Q : PUnit → sProp 𝕄} :
    iprop(Env m K ∗ (crd c (.loc d) N ∗ pos c (.loc d) 0) ∗ (crd c (.zs d) N ∗ pos c (.zs d) 0) ∗ (crd c (.zr d 0) N ∗ pos c (.zr d 0) 0) ∗ Ow c l)
      ⊢ iprop(((pos c (.loc d) 1 ∗ anyAt c (locM d) fullShare ∗ pos c (.zs d) 1 ∗ pos c (.zr d 0) 1
          ∗ ownsTc c (slot d 0) fullShare (sum0 m d c) ∗ Ow c l) -∗ WP c (k ⟨⟩) Q) -∗ WP c (pFin0 c d >>= k) Q) := by
  have h0 : ∀ p ∈ l, 0 < lvC p.2 := fun p hp => Nat.lt_of_le_of_lt (Nat.zero_le _) (hl p hp)
  unfold pFin0
  simp only [Prog.bind_assoc]
  iintro ⟨#HE, ⟨HcL, HpL⟩, ⟨HcS, HpS⟩, ⟨HcR, HpR⟩, HO⟩ Hk
  iapply (await0 K (.loc d) rfl rfl rfl (r := 0) (l := l) (rounds_pos _) (credit_loc d) h0) $$ [HcL HpL HO]
  · isplitr; · iexact HE
    isplitl [HcL]; · iexact HcL
    isplitl [HpL] <;> iassumption
  iintro ⟨HO, HpL, Hloc⟩
  iapply (await0 K (.zs d) rfl rfl rfl (r := 0) (l := l) (rounds_pos _) (credit_xsend d c) h0) $$ [HcS HpS HO]
  · isplitr; · iexact HE
    isplitl [HcS]; · iexact HcS
    isplitl [HpS] <;> iassumption
  iintro ⟨HO, HpS, -⟩
  iapply (await0 K (.zr d 0) rfl rfl rfl (r := 0) (l := l) (rounds_pos _) (credit_slot d 0) hl) $$ [HcR HpR HO]
  · isplitr; · iexact HE
    isplitl [HcR]; · iexact HcR
    isplitl [HpR] <;> iassumption
  iintro ⟨HO, HpR, Hsl⟩
  ihave Hloc := (Entails.of_eq (pay_loc0 m c d 0)) $$ Hloc
  ihave Hsl := (Entails.of_eq (pay_zr0 m c d 0 0)) $$ Hsl
  iapply (add_wp c d 0 (land0 m d c) (stgV m d 0 c)) $$ [Hsl Hloc]
  · isplitl [Hsl]; · iexact Hsl
    iexact Hloc
  iintro ⟨Hsl, Hloc⟩
  ihave Hloc := (owns_any c (locM d) fullShare _) $$ Hloc
  iapply Hk
  isplitl [HpL]; · iexact HpL
  isplitl [Hloc]; · iexact Hloc
  isplitl [HpS]; · iexact HpS
  isplitl [HpR]; · iexact HpR
  isplitl [Hsl]; · iexact Hsl
  iexact HO

theorem fin1_wp {l : List Due} (hl : ∀ p ∈ l, lvC (.zr d 1) < lvC p.2) {k : PUnit → Pg F} {Q : PUnit → sProp 𝕄} :
    iprop(Env m K ∗ (crd c (.loc d) N ∗ pos c (.loc d) 1) ∗ (crd c (.zs d) N ∗ pos c (.zs d) 1) ∗ (crd c (.zr d 1) N ∗ pos c (.zr d 1) 0) ∗ Ow c l)
      ⊢ iprop(((pos c (.loc d) 2 ∗ anyAt c (locM d) fullShare ∗ pos c (.zs d) 2 ∗ anyAt c (slot d 0) fullShare ∗ pos c (.zr d 1) 1
          ∗ ownsTc c (slot d 1) fullShare (sum1 m d c) ∗ Ow c l) -∗ WP c (k ⟨⟩) Q) -∗ WP c (pFin1 c d >>= k) Q) := by
  have h0 : ∀ p ∈ l, 0 < lvC p.2 := fun p hp => Nat.lt_of_le_of_lt (Nat.zero_le _) (hl p hp)
  unfold pFin1
  simp only [Prog.bind_assoc]
  iintro ⟨#HE, ⟨HcL, HpL⟩, ⟨HcS, HpS⟩, ⟨HcR, HpR⟩, HO⟩ Hk
  iapply (await0 K (.loc d) rfl rfl rfl (r := 1) (l := l) lt13 (credit_loc d) h0) $$ [HcL HpL HO]
  · isplitr; · iexact HE
    isplitl [HcL]; · iexact HcL
    isplitl [HpL] <;> iassumption
  iintro ⟨HO, HpL, Hloc⟩
  iapply (await0 K (.zs d) rfl rfl rfl (r := 1) (l := l) lt13 (credit_slot d 0) h0) $$ [HcS HpS HO]
  · isplitr; · iexact HE
    isplitl [HcS]; · iexact HcS
    isplitl [HpS] <;> iassumption
  iintro ⟨HO, HpS, Hsrc⟩
  iapply (await0 K (.zr d 1) rfl rfl rfl (r := 0) (l := l) (rounds_pos _) (credit_slot d 1) hl) $$ [HcR HpR HO]
  · isplitr; · iexact HE
    isplitl [HcR]; · iexact HcR
    isplitl [HpR] <;> iassumption
  iintro ⟨HO, HpR, Hsl⟩
  ihave Hloc := (Entails.of_eq (pay_loc1 m c d 0)) $$ Hloc
  ihave Hsrc := (Entails.of_eq (pay_zs1 m c d 0)) $$ Hsrc
  ihave Hsl := (Entails.of_eq (pay_zr1 m c d 0 0)) $$ Hsl
  iapply (add_wp c d 1 (land1 m d c) (stgV m d 1 c)) $$ [Hsl Hloc]
  · isplitl [Hsl]; · iexact Hsl
    iexact Hloc
  iintro ⟨Hsl, Hloc⟩
  ihave Hloc := (owns_any c (locM d) fullShare _) $$ Hloc
  iapply Hk
  isplitl [HpL]; · iexact HpL
  isplitl [Hloc]; · iexact Hloc
  isplitl [HpS]; · iexact HpS
  isplitl [Hsrc]; · iexact Hsrc
  isplitl [HpR]; · iexact HpR
  isplitl [Hsl]; · iexact Hsl
  iexact HO

theorem fin2_wp {l : List Due} (hl : ∀ p ∈ l, lvC (.zr d 2) < lvC p.2) {k : PUnit → Pg F} {Q : PUnit → sProp 𝕄} :
    iprop(Env m K ∗ (crd c (.loc d) N ∗ pos c (.loc d) 2) ∗ (crd c (.zs d) N ∗ pos c (.zs d) 2) ∗ (crd c (.zr d 2) N ∗ pos c (.zr d 2) 0) ∗ Ow c l)
      ⊢ iprop(((pos c (.loc d) 3 ∗ anyAt c (locM d) fullShare ∗ pos c (.zs d) 3 ∗ anyAt c (slot d 1) fullShare ∗ pos c (.zr d 2) 1
          ∗ ownsTc c (slot d 0) fullShare (fin m d c) ∗ Ow c l) -∗ WP c (k ⟨⟩) Q) -∗ WP c (pFin2 c d >>= k) Q) := by
  have h0 : ∀ p ∈ l, 0 < lvC p.2 := fun p hp => Nat.lt_of_le_of_lt (Nat.zero_le _) (hl p hp)
  unfold pFin2
  simp only [Prog.bind_assoc]
  iintro ⟨#HE, ⟨HcL, HpL⟩, ⟨HcS, HpS⟩, ⟨HcR, HpR⟩, HO⟩ Hk
  iapply (await0 K (.loc d) rfl rfl rfl (r := 2) (l := l) lt23 (credit_loc d) h0) $$ [HcL HpL HO]
  · isplitr; · iexact HE
    isplitl [HcL]; · iexact HcL
    isplitl [HpL] <;> iassumption
  iintro ⟨HO, HpL, Hloc⟩
  iapply (await0 K (.zs d) rfl rfl rfl (r := 2) (l := l) lt23 (credit_slot d 1) h0) $$ [HcS HpS HO]
  · isplitr; · iexact HE
    isplitl [HcS]; · iexact HcS
    isplitl [HpS] <;> iassumption
  iintro ⟨HO, HpS, Hsrc⟩
  iapply (await0 K (.zr d 2) rfl rfl rfl (r := 0) (l := l) (rounds_pos _) (credit_slot d 0) hl) $$ [HcR HpR HO]
  · isplitr; · iexact HE
    isplitl [HcR]; · iexact HcR
    isplitl [HpR] <;> iassumption
  iintro ⟨HO, HpR, Hsl⟩
  ihave Hloc := (Entails.of_eq (pay_loc2 m c d 0)) $$ Hloc
  ihave Hsrc := (Entails.of_eq (pay_zs2 m c d 0)) $$ Hsrc
  ihave Hsl := (Entails.of_eq (pay_zr2 m c d 0 0)) $$ Hsl
  iapply (add_wp c d 0 (land2 m d c) (stgV m d 2 c)) $$ [Hsl Hloc]
  · isplitl [Hsl]; · iexact Hsl
    iexact Hloc
  iintro ⟨Hsl, Hloc⟩
  ihave Hloc := (owns_any c (locM d) fullShare _) $$ Hloc
  iapply Hk
  isplitl [HpL]; · iexact HpL
  isplitl [Hloc]; · iexact Hloc
  isplitl [HpS]; · iexact HpS
  isplitl [Hsrc]; · iexact Hsrc
  isplitl [HpR]; · iexact HpR
  isplitl [Hsl]; · iexact Hsl
  iexact HO

theorem free_wp {l : List Due} (hl : ∀ p ∈ l, lvC (.free d) < lvC p.2) {k : PUnit → Pg F} {Q : PUnit → sProp 𝕄} :
    iprop(Env m K ∗ anyAt c (slot d 0) fullShare ∗ tok (zn (!d) c) (.free d) 0 0 ∗ (crd c (.free d) 1 ∗ pos c (.free d) 0) ∗ Ow c ((zn (!d) c, .free d) :: l))
      ⊢ iprop(((pos c (.free d) 1 ∗ anyAt (zn d c) (slot d 0) fullShare ∗ Ow c l) -∗ WP c (k ⟨⟩) Q) -∗ WP c (pFree c d >>= k) Q) := by
  have h1 : anyAt c (slot d 0) fullShare ⊢ (pay m (zn (!d) c) (.free d) 0 0 : sProp 𝕄) := by rw [pay_free, zn_zn]
  have h2 : (bigSep (duty (.free d)) fun i => pay m c (.free d) 0 i) ⊢ (anyAt (zn d c) (slot d 0) fullShare : sProp 𝕄) := by
    rw [show duty (.free d) = {0} from rfl, bigSep_singleton]; exact .rfl
  unfold pFree
  simp only [Prog.bind_assoc]
  iintro ⟨#HE, Hs, Ht, ⟨Hc, ⟨Hp, -⟩⟩, HO⟩ Hk
  ihave #Hr := (Env_reached m K (zn (!d) c) (.free d)) $$ HE
  ihave Hs := h1 $$ Hs
  iapply (signal_wp m K c (.free d) (freeDev_eq c d) rfl (r := 0) (i := 0) (l := l) (rounds_pos _) mem0 rfl) $$ [Hs Ht HO]
  · isplitr; · iexact HE
    isplitl [Hs]; · iexact Hs
    isplitl [Ht]; · iexact Ht
    isplitr; · iexact Hr
    iexact HO
  iintro HO
  iapply (sem_wait_wp m K c (.free d) rfl (r := 0) (n := 1) (l := l) rfl (rounds_pos _) rfl hl) $$ [Hc Hp HO]
  · isplitr; · iexact HE
    isplitl [Hc]; · iexact Hc
    isplitl [HO] <;> iassumption
  iintro ⟨HO, Hp, Hb⟩
  ihave Hb := h2 $$ Hb
  iapply Hk
  isplitl [Hp]; · iexact Hp
  isplitl [Hb] <;> iassumption

/-! ## The xy ring -/

theorem hop0_wp {l : List Due} {k : PUnit → Pg F} {Q : PUnit → sProp 𝕄} :
    iprop(Env m K ∗ ownsTc c (slot d 0) fullShare (fin m d c) ∗ anyAt (an d c) (ag d 0) fullShare ∗ tok c (.as d) 0 0
        ∗ tok (an d c) (.ar d 0) 0 0 ∗ Ow c ((an d c, .ar d 0) :: l))
      ⊢ iprop(((crd c (.as d) N ∗ ownsTc c (slot d 0) fullShare.right (fin m d c) ∗ Ow c l) -∗ WP c (k ⟨⟩) Q) -∗ WP c (pHop0 c d >>= k) Q) := by
  unfold pHop0
  iintro ⟨#HE, Hs, Hd, Ht, Ht', HO⟩ Hk
  ihave #Hr := (Env_reached m K c (.as d)) $$ HE
  ihave #Hr' := (Env_reached m K (an d c) (.ar d 0)) $$ HE
  ihave Hs := (owns_halves (c : Thread nD τ) (slot d 0) fullShare (fin m d c)).1 $$ Hs
  icases Hs with ⟨Hs, Hsr⟩
  iapply (far_wp m K c (.as d) (.ar d 0) (aDev_eq c d 0) rfl rfl (r := 0) (r' := 0) (X := fin m d c) (q := fullShare.left) (l := l) (rounds_pos _) mem0 rfl (rounds_pos _) mem0 rfl
    (credit_ag d 0) (owns_any c (slot d 0) fullShare.left _) (by rw [pay_ar0, gath0_an])) $$ [Hs Hd Ht Ht' HO]
  · isplitr; · iexact HE
    isplitl [Hs]; · iexact Hs
    isplitl [Hd]; · iexact Hd
    isplitl [Ht]; · iexact Ht
    isplitr; · iexact Hr
    isplitl [Ht']; · iexact Ht'
    isplitr; · iexact Hr'
    iexact HO
  iintro ⟨Hc, HO⟩
  iapply Hk
  isplitl [Hc]; · iexact Hc
  isplitl [Hsr]; · iexact Hsr
  iexact HO

theorem out0_wp {k : PUnit → Pg F} {Q : PUnit → sProp 𝕄} :
    iprop(Env m K ∗ ownsTc c (slot d 0) fullShare.right (fin m d c) ∗ anyAt c (piece d 0 c) fullShare ∗ tok c (.out d) 0 0)
      ⊢ iprop((crd c (.out d) N -∗ WP c (k ⟨⟩) Q) -∗ WP c (pOut0 c d >>= k) Q) := by
  unfold pOut0
  iintro ⟨#HE, Hs, Hd, Ht⟩ Hk
  ihave #Hr := (Env_reached m K c (.out d)) $$ HE
  iapply (near_wp m K c (.out d) rfl (r := 0) (i := 0) (X := fin m d c) (q := fullShare.right) (rounds_pos _) (Finset.mem_univ _) rfl (credit_piece d 0 c)
    (by rw [pay_out0]; exact BIClass.sep_mono .rfl (owns_any c (slot d 0) fullShare.right _))) $$ [Hs Hd Ht]
  · isplitr; · iexact HE
    isplitl [Hs]; · iexact Hs
    isplitl [Hd]; · iexact Hd
    isplitl [Ht]; · iexact Ht
    iexact Hr
  iexact Hk

theorem hop1_wp {l : List Due} (hl : ∀ p ∈ (an d c, .ar d 1) :: l, lvC (.ar d 0) < lvC p.2) {k : PUnit → Pg F} {Q : PUnit → sProp 𝕄} :
    iprop(Env m K ∗ (crd c (.as d) N ∗ pos c (.as d) 0) ∗ (crd c (.ar d 0) N ∗ pos c (.ar d 0) 0)
        ∗ anyAt c (piece d 1 c) fullShare ∗ tok c (.out d) 0 1 ∗ anyAt (an d c) (ag d 1) fullShare ∗ tok c (.as d) 1 0
        ∗ tok (an d c) (.ar d 1) 0 0 ∗ Ow c ((an d c, .ar d 1) :: l))
      ⊢ iprop(((pos c (.as d) 1 ∗ crd c (.as d) N ∗ anyAt c (slot d 0) fullShare.left ∗ pos c (.ar d 0) 1 ∗ crd c (.out d) N ∗ Ow c l) -∗ WP c (k ⟨⟩) Q) -∗ WP c (pHop1 c d >>= k) Q) := by
  have h0 : ∀ p ∈ ((an d c, .ar d 1) :: l), 0 < lvC p.2 := fun p hp => Nat.lt_of_le_of_lt (Nat.zero_le _) (hl p hp)
  unfold pHop1
  simp only [Prog.bind_assoc]
  iintro ⟨#HE, ⟨HcS, HpS⟩, ⟨HcR, HpR⟩, Hy, Hto, Hd, Ht, Ht', HO⟩ Hk
  ihave #Hr0 := (Env_reached m K c (.out d)) $$ HE
  iapply (await0 K (.as d) rfl rfl rfl (r := 0) (l := ((an d c, .ar d 1) :: l)) (rounds_pos _) (credit_slot d 0) h0) $$ [HcS HpS HO]
  · isplitr; · iexact HE
    isplitl [HcS]; · iexact HcS
    isplitl [HpS] <;> iassumption
  iintro ⟨HO, ⟨HpS, #HrS⟩, Hb⟩
  ihave Hb := (Entails.of_eq (pay_as0 m c d 0)) $$ Hb
  iapply (await0 K (.ar d 0) rfl rfl rfl (r := 0) (l := ((an d c, .ar d 1) :: l)) (rounds_pos _) (credit_ag d 0) hl) $$ [HcR HpR HO]
  · isplitr; · iexact HE
    isplitl [HcR]; · iexact HcR
    isplitl [HpR] <;> iassumption
  iintro ⟨HO, HpR, Hs⟩
  ihave Hs := (Entails.of_eq (pay_ar0 m c d 0 0)) $$ Hs
  ihave Hs := (owns_halves (c : Thread nD τ) (ag d 0) fullShare (gath0 m d c)).1 $$ Hs
  icases Hs with ⟨Hs, Hsr⟩
  iapply (far_wp m K c (.as d) (.ar d 1) (aDev_eq c d 1) rfl rfl (r := 1) (r' := 0) (X := gath0 m d c) (q := fullShare.left) (l := l) lt13 mem0 rfl (rounds_pos _) mem0 rfl
    (credit_ag d 1) (owns_any c (ag d 0) fullShare.left _) (by rw [pay_ar1, gath1_an])) $$ [Hs Hd Ht Ht' HO]
  · isplitr; · iexact HE
    isplitl [Hs]; · iexact Hs
    isplitl [Hd]; · iexact Hd
    isplitl [Ht]; · iexact Ht
    isplitr; · iexact HrS
    isplitl [Ht']; · iexact Ht'
    isplitr; · iapply (Env_reached m K (an d c) (.ar d 1)); iexact HE
    iexact HO
  iintro ⟨Hc, HO⟩
  iapply (near_wp m K c (.out d) rfl (r := 0) (i := 1) (X := gath0 m d c) (q := fullShare.right) (rounds_pos _) (Finset.mem_univ _) rfl (credit_piece d 1 c)
    (by rw [pay_out1]; exact BIClass.sep_mono .rfl (owns_any c (ag d 0) fullShare.right _))) $$ [Hsr Hy Hto]
  · isplitr; · iexact HE
    isplitl [Hsr]; · iexact Hsr
    isplitl [Hy]; · iexact Hy
    isplitl [Hto]; · iexact Hto
    iexact Hr0
  iintro Hco
  iapply Hk
  isplitl [HpS]
  · isplitl [HpS]; · iexact HpS
    iexact HrS
  isplitl [Hc]; · iexact Hc
  isplitl [Hb]; · iexact Hb
  isplitl [HpR]; · iexact HpR
  isplitl [Hco] <;> iassumption

theorem hop2_wp {l : List Due} (hl : ∀ p ∈ (an d c, .ar d 2) :: l, lvC (.ar d 1) < lvC p.2) {k : PUnit → Pg F} {Q : PUnit → sProp 𝕄} :
    iprop(Env m K ∗ (crd c (.as d) N ∗ pos c (.as d) 1) ∗ (crd c (.ar d 1) N ∗ pos c (.ar d 1) 0)
        ∗ anyAt c (piece d 2 c) fullShare ∗ tok c (.out d) 0 2 ∗ anyAt (an d c) (ag d 2) fullShare ∗ tok c (.as d) 2 0
        ∗ tok (an d c) (.ar d 2) 0 0 ∗ Ow c ((an d c, .ar d 2) :: l))
      ⊢ iprop(((pos c (.as d) 2 ∗ crd c (.as d) N ∗ anyAt c (ag d 0) fullShare.left ∗ pos c (.ar d 1) 1 ∗ crd c (.out d) N ∗ Ow c l) -∗ WP c (k ⟨⟩) Q) -∗ WP c (pHop2 c d >>= k) Q) := by
  have h0 : ∀ p ∈ ((an d c, .ar d 2) :: l), 0 < lvC p.2 := fun p hp => Nat.lt_of_le_of_lt (Nat.zero_le _) (hl p hp)
  unfold pHop2
  simp only [Prog.bind_assoc]
  iintro ⟨#HE, ⟨HcS, HpS⟩, ⟨HcR, HpR⟩, Hy, Hto, Hd, Ht, Ht', HO⟩ Hk
  ihave #Hr0 := (Env_reached m K c (.out d)) $$ HE
  iapply (await0 K (.as d) rfl rfl rfl (r := 1) (l := ((an d c, .ar d 2) :: l)) lt13 (credit_ag d 0) h0) $$ [HcS HpS HO]
  · isplitr; · iexact HE
    isplitl [HcS]; · iexact HcS
    isplitl [HpS] <;> iassumption
  iintro ⟨HO, ⟨HpS, #HrS⟩, Hb⟩
  ihave Hb := (Entails.of_eq (pay_as1 m c d 0)) $$ Hb
  iapply (await0 K (.ar d 1) rfl rfl rfl (r := 0) (l := ((an d c, .ar d 2) :: l)) (rounds_pos _) (credit_ag d 1) hl) $$ [HcR HpR HO]
  · isplitr; · iexact HE
    isplitl [HcR]; · iexact HcR
    isplitl [HpR] <;> iassumption
  iintro ⟨HO, HpR, Hs⟩
  ihave Hs := (Entails.of_eq (pay_ar1 m c d 0 0)) $$ Hs
  ihave Hs := (owns_halves (c : Thread nD τ) (ag d 1) fullShare (gath1 m d c)).1 $$ Hs
  icases Hs with ⟨Hs, Hsr⟩
  iapply (far_wp m K c (.as d) (.ar d 2) (aDev_eq c d 2) rfl rfl (r := 2) (r' := 0) (X := gath1 m d c) (q := fullShare.left) (l := l) lt23 mem0 rfl (rounds_pos _) mem0 rfl
    (credit_ag d 2) (owns_any c (ag d 1) fullShare.left _) (by rw [pay_ar2, gath2_an])) $$ [Hs Hd Ht Ht' HO]
  · isplitr; · iexact HE
    isplitl [Hs]; · iexact Hs
    isplitl [Hd]; · iexact Hd
    isplitl [Ht]; · iexact Ht
    isplitr; · iexact HrS
    isplitl [Ht']; · iexact Ht'
    isplitr; · iapply (Env_reached m K (an d c) (.ar d 2)); iexact HE
    iexact HO
  iintro ⟨Hc, HO⟩
  iapply (near_wp m K c (.out d) rfl (r := 0) (i := 2) (X := gath1 m d c) (q := fullShare.right) (rounds_pos _) (Finset.mem_univ _) rfl (credit_piece d 2 c)
    (by rw [pay_out2]; exact BIClass.sep_mono .rfl (owns_any c (ag d 1) fullShare.right _))) $$ [Hsr Hy Hto]
  · isplitr; · iexact HE
    isplitl [Hsr]; · iexact Hsr
    isplitl [Hy]; · iexact Hy
    isplitl [Hto]; · iexact Hto
    iexact Hr0
  iintro Hco
  iapply Hk
  isplitl [HpS]
  · isplitl [HpS]; · iexact HpS
    iexact HrS
  isplitl [Hc]; · iexact Hc
  isplitl [Hb]; · iexact Hb
  isplitl [HpR]; · iexact HpR
  isplitl [Hco] <;> iassumption

theorem hop3_wp {l : List Due} (hl : ∀ p ∈ l, lvC (.ar d 2) < lvC p.2) {k : PUnit → Pg F} {Q : PUnit → sProp 𝕄} :
    iprop(Env m K ∗ (crd c (.as d) N ∗ pos c (.as d) 2) ∗ (crd c (.ar d 2) N ∗ pos c (.ar d 2) 0)
        ∗ anyAt c (piece d 3 c) fullShare ∗ tok c (.out d) 0 3 ∗ Ow c l)
      ⊢ iprop(((pos c (.as d) 3 ∗ anyAt c (ag d 1) fullShare.left ∗ pos c (.ar d 2) 1 ∗ anyAt c (ag d 2) fullShare.left ∗ crd c (.out d) N ∗ Ow c l) -∗ WP c (k ⟨⟩) Q) -∗ WP c (pHop3 c d >>= k) Q) := by
  have h0 : ∀ p ∈ l, 0 < lvC p.2 := fun p hp => Nat.lt_of_le_of_lt (Nat.zero_le _) (hl p hp)
  unfold pHop3
  simp only [Prog.bind_assoc]
  iintro ⟨#HE, ⟨HcS, HpS⟩, ⟨HcR, HpR⟩, Hy, Hto, HO⟩ Hk
  ihave #Hr0 := (Env_reached m K c (.out d)) $$ HE
  iapply (await0 K (.as d) rfl rfl rfl (r := 2) (l := l) lt23 (credit_ag d 1) h0) $$ [HcS HpS HO]
  · isplitr; · iexact HE
    isplitl [HcS]; · iexact HcS
    isplitl [HpS] <;> iassumption
  iintro ⟨HO, ⟨HpS, #HrS⟩, Hb⟩
  ihave Hb := (Entails.of_eq (pay_as2 m c d 0)) $$ Hb
  iapply (await0 K (.ar d 2) rfl rfl rfl (r := 0) (l := l) (rounds_pos _) (credit_ag d 2) hl) $$ [HcR HpR HO]
  · isplitr; · iexact HE
    isplitl [HcR]; · iexact HcR
    isplitl [HpR] <;> iassumption
  iintro ⟨HO, HpR, Hs⟩
  ihave Hs := (Entails.of_eq (pay_ar2 m c d 0 0)) $$ Hs
  ihave Hs := (owns_halves (c : Thread nD τ) (ag d 2) fullShare (gath2 m d c)).1 $$ Hs
  icases Hs with ⟨Hs, Hsr⟩
  iapply (near_wp m K c (.out d) rfl (r := 0) (i := 3) (X := gath2 m d c) (q := fullShare.right) (rounds_pos _) (Finset.mem_univ _) rfl (credit_piece d 3 c)
    (by rw [pay_out3]; exact BIClass.sep_mono .rfl (owns_any c (ag d 2) fullShare.right _))) $$ [Hsr Hy Hto]
  · isplitr; · iexact HE
    isplitl [Hsr]; · iexact Hsr
    isplitl [Hy]; · iexact Hy
    isplitl [Hto]; · iexact Hto
    iexact Hr0
  iintro Hco
  iapply Hk
  isplitl [HpS]
  · isplitl [HpS]; · iexact HpS
    iexact HrS
  isplitl [Hb]; · iexact Hb
  isplitl [HpR]; · iexact HpR
  isplitl [Hs]; · iapply (owns_any c (ag d 2) fullShare.left _); iexact Hs
  isplitl [Hco] <;> iassumption

/-! ## The waits for the stores -/

/-- The stores' cell with `n` units of its round taken, and the payloads that came with them. -/
def PO (m : (ℓ : Loc nD τ sig) → Buf (Elt F) ℓ) (c : Dev nD) (d : Bool) (n : ℕ) : sProp 𝕄 :=
  iprop(∃ T : Finset (Fin 4), atPos ER (cell c (.out d)) 0 T n ∗ bigSep T fun i => pay m c (.out d) 0 i)

theorem PO_start : pos c (.out d) 0 ⊢ (PO m c d 0 : sProp 𝕄) := by
  unfold PO
  iintro ⟨Hp, -⟩
  iexists ∅
  isplitl [Hp]; · iexact Hp
  iapply (Entails.of_eq (bigSep_empty (Φ := fun i => (pay m c (.out d) 0 i : sProp 𝕄))).symm); iempintro

theorem bigSep_rejoin {s t : Finset (Fin 4)} (h : t ⊆ s) (Φ : Fin 4 → sProp 𝕄) : iprop(bigSep t Φ ∗ bigSep (s \ t) Φ) ⊢ bigSep s Φ :=
  Entails.of_eq (bigSep_sdiff_split h).symm

theorem outwait_wp {sp : Space} {src : Memref sig .tc sp S1024x512 .f32} {j : Fin 4} {hs : src.view.WordExact} {hd : (piece d j c).view.WordExact}
    {n : ℕ} {k : PUnit → Pg F} {Q : PUnit → sProp 𝕄} :
    iprop(Env m K ∗ PO m c d n ∗ crd c (.out d) N ∗ Ow c [])
      ⊢ iprop(((PO m c d (n + N) ∗ Ow c []) -∗ WP c (k ⟨⟩) Q) -∗ WP c (await (outS d) src (piece d j c) hs hd >>= k) Q) := by
  unfold PO
  iintro ⟨#HE, ⟨%T, Hp, HT⟩, Hc, HO⟩ Hk
  iapply (await_part m K c (.out d) rfl (r := 0) (n := n) (T := T) (l := []) (rounds_pos _) (credit_piece d j c) (fun p hp => absurd hp List.not_mem_nil)) $$ [Hc Hp HO]
  · isplitr; · iexact HE
    isplitl [Hc]; · iexact Hc
    isplitl [HO] <;> iassumption
  iintro ⟨%S, %hS, HO, Hp, Hb⟩
  iapply Hk
  isplitr [HO]
  · iexists S
    isplitl [Hp]; · iexact Hp
    iapply (bigSep_rejoin hS.1 (fun i => (pay m c (.out d) 0 i : sProp 𝕄)))
    isplitl [HT] <;> iassumption
  iexact HO

theorem four (Φ : Fin 4 → sProp 𝕄) : bigSep Finset.univ Φ ⊢ iprop(Φ 0 ∗ Φ 1 ∗ Φ 2 ∗ Φ 3) :=
  Entails.of_eq (bigSep_univ_eq_bigSepL [0, 1, 2, 3] (by decide) (by decide) Φ)

theorem outlast_wp {sp : Space} {src : Memref sig .tc sp S1024x512 .f32} {j : Fin 4} {hs : src.view.WordExact} {hd : (piece d j c).view.WordExact}
    {n : ℕ} (hn : n + N = 4 * N) {k : PUnit → Pg F} {Q : PUnit → sProp 𝕄} :
    iprop(Env m K ∗ PO m c d n ∗ crd c (.out d) N ∗ Ow c [])
      ⊢ iprop(((pos c (.out d) 1 ∗ pay m c (.out d) 0 0 ∗ pay m c (.out d) 0 1 ∗ pay m c (.out d) 0 2 ∗ pay m c (.out d) 0 3 ∗ Ow c []) -∗ WP c (k ⟨⟩) Q)
        -∗ WP c (await (outS d) src (piece d j c) hs hd >>= k) Q) := by
  unfold PO
  iintro ⟨#HE, ⟨%T, Hp, HT⟩, Hc, HO⟩ Hk
  iapply (await_wp m K c (.out d) rfl (r := 0) (n := n) (T := T) (l := []) (rounds_pos _) (credit_piece d j c) (by rw [hn]; rfl) (fun p hp => absurd hp List.not_mem_nil)) $$ [Hc Hp HO]
  · isplitr; · iexact HE
    isplitl [Hc]; · iexact Hc
    isplitl [HO] <;> iassumption
  iintro ⟨HO, Hp, Hb⟩
  ihave Hall := (bigSep_rejoin (Finset.subset_univ T) (fun i => (pay m c (.out d) 0 i : sProp 𝕄))) $$ [HT Hb]
  · isplitl [HT]; · iexact HT
    iexact Hb
  ihave Hall := (four (fun i => (pay m c (.out d) 0 i : sProp 𝕄))) $$ Hall
  icases Hall with ⟨H0, H1, H2, H3⟩
  iapply Hk
  isplitl [Hp]; · iexact Hp
  isplitl [H0]; · iexact H0
  isplitl [H1]; · iexact H1
  isplitl [H2]; · iexact H2
  isplitl [H3] <;> iassumption

/-! ## The entry -/

/-- The two slots and the three of the xy ring a device hands to its neighbours before they send. -/
abbrev slots (c : Dev nD) (d : Bool) : sProp 𝕄 := iprop(anyAt c (slot d 0) fullShare ∗ anyAt c (slot d 1) fullShare)
abbrev ags (c : Dev nD) (d : Bool) : sProp 𝕄 := iprop(anyAt c (ag d 0) fullShare ∗ anyAt c (ag d 1) fullShare ∗ anyAt c (ag d 2) fullShare)

theorem entry_wp {l : List Due} (hl : ∀ p ∈ l, lvC .bar < lvC p.2) {k : PUnit → Pg F} {Q : PUnit → sProp 𝕄} :
    iprop(Env m K ∗ slots c true ∗ slots c false ∗ ags c true ∗ ags c false
        ∗ tok (zn false c) .bar 0 0 ∗ tok (zn true c) .bar 0 1 ∗ tok (an false c) .bar 0 2 ∗ tok (an true c) .bar 0 3
        ∗ (crd c .bar 4 ∗ pos c .bar 0)
        ∗ Ow c ((zn false c, .bar) :: (zn true c, .bar) :: (an false c, .bar) :: (an true c, .bar) :: l))
      ⊢ iprop(((pos c .bar 1 ∗ slots (zn true c) true ∗ slots (zn false c) false ∗ ags (an true c) true ∗ ags (an false c) false ∗ Ow c l)
          -∗ WP c (k ⟨⟩) Q) -∗ WP c (pEntry c >>= k) Q) := by
  have e0 : slots c true ⊢ (pay m (zn false c) .bar 0 0 : sProp 𝕄) := by rw [pay_bar0, show zn true (zn false c) = c from zn_zn true c]
  have e1 : slots c false ⊢ (pay m (zn true c) .bar 0 1 : sProp 𝕄) := by rw [pay_bar1, show zn false (zn true c) = c from zn_zn false c]
  have e2 : ags c true ⊢ (pay m (an false c) .bar 0 2 : sProp 𝕄) := by rw [pay_bar2, show an true (an false c) = c from an_an true c]
  have e3 : ags c false ⊢ (pay m (an true c) .bar 0 3 : sProp 𝕄) := by rw [pay_bar3, show an false (an true c) = c from an_an false c]
  unfold pEntry
  simp only [Prog.bind_assoc]
  iintro ⟨#HE, Hs1, Hs0, Ha1, Ha0, T0, T1, T2, T3, ⟨Hc, ⟨Hp, -⟩⟩, HO⟩ Hk
  ihave H := e0 $$ Hs1
  iapply (signal_wp m K c .bar (barDev0 c) rfl (r := 0) (i := 0) (l := (zn true c, .bar) :: (an false c, .bar) :: (an true c, .bar) :: l) (rounds_pos _) (Finset.mem_univ _) rfl) $$ [H T0 HO]
  · isplitr; · iexact HE
    isplitl [H]; · iexact H
    isplitl [T0]; · iexact T0
    isplitr; · iapply (Env_reached m K (zn false c) .bar); iexact HE
    iexact HO
  iintro HO
  ihave H := e1 $$ Hs0
  iapply (signal_wp m K c .bar (barDev1 c) rfl (r := 0) (i := 1) (l := (an false c, .bar) :: (an true c, .bar) :: l) (rounds_pos _) (Finset.mem_univ _) rfl) $$ [H T1 HO]
  · isplitr; · iexact HE
    isplitl [H]; · iexact H
    isplitl [T1]; · iexact T1
    isplitr; · iapply (Env_reached m K (zn true c) .bar); iexact HE
    iexact HO
  iintro HO
  ihave H := e2 $$ Ha1
  iapply (signal_wp m K c .bar (barDev2 c) rfl (r := 0) (i := 2) (l := (an true c, .bar) :: l) (rounds_pos _) (Finset.mem_univ _) rfl) $$ [H T2 HO]
  · isplitr; · iexact HE
    isplitl [H]; · iexact H
    isplitl [T2]; · iexact T2
    isplitr; · iapply (Env_reached m K (an false c) .bar); iexact HE
    iexact HO
  iintro HO
  ihave H := e3 $$ Ha0
  iapply (signal_wp m K c .bar (barDev3 c) rfl (r := 0) (i := 3) (l := l) (rounds_pos _) (Finset.mem_univ _) rfl) $$ [H T3 HO]
  · isplitr; · iexact HE
    isplitl [H]; · iexact H
    isplitl [T3]; · iexact T3
    isplitr; · iapply (Env_reached m K (an true c) .bar); iexact HE
    iexact HO
  iintro HO
  iapply (sem_wait_wp m K c .bar rfl (r := 0) (n := 4) (l := l) rfl (rounds_pos _) rfl hl) $$ [Hc Hp HO]
  · isplitr; · iexact HE
    isplitl [Hc]; · iexact Hc
    isplitl [HO] <;> iassumption
  iintro ⟨HO, Hp, Hb⟩
  ihave Hb := (show (bigSep (duty .bar) fun i => (pay m c .bar 0 i : sProp 𝕄)) ⊢ _ from four (fun i => (pay m c .bar 0 i : sProp 𝕄))) $$ Hb
  icases Hb with ⟨H0, H1, H2, H3⟩
  ihave H0 := (Entails.of_eq (pay_bar0 m c 0)) $$ H0
  ihave H1 := (Entails.of_eq (pay_bar1 m c 0)) $$ H1
  ihave H2 := (Entails.of_eq (pay_bar2 m c 0)) $$ H2
  ihave H3 := (Entails.of_eq (pay_bar3 m c 0)) $$ H3
  iapply Hk
  isplitl [Hp]; · iexact Hp
  isplitl [H0]; · iexact H0
  isplitl [H1]; · iexact H1
  isplitl [H2]; · iexact H2
  isplitl [H3] <;> iassumption

end Cert.KernelIdealRun
-- ==== Proof.KernelIdealRun.Body.lean ====
/-
The whole kernel on one device: from what the launch gives it to what it leaves.
-/
module

public import proofs.«01_k».proof.Proof.KernelIdealRun.Blocks

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cl → ℕ) (c : Dev nD)

theorem lv_ok (k : Cl) (l : List Due) (h : l.all (fun p => decide (lvC k < lvC p.2)) = true) : ∀ p ∈ l, lvC k < lvC p.2 :=
  fun p hp => of_decide_eq_true (List.all_eq_true.mp h p hp)

omit [FloatOps F] in
theorem pair_intro (k : Cl) (r : ℕ) : (iprop(crd c k N ∗ pos c k r) : sProp 𝕄) ⊢ iprop(crd c k N ∗ pos c k r) := .rfl

/-! ## What a device starts with and ends with, one direction at a time -/

/-- The pieces of the operand its transfers read. -/
def Xs (d : Bool) : sProp 𝕄 :=
  iprop((∃ q, ownsTc c (xsend d c) q (sendV m d c)) ∗ (∃ q, ownsTc c (xstage d 0 c) q (stgV m d 0 c))
    ∗ (∃ q, ownsTc c (xstage d 1 c) q (stgV m d 1 c)) ∗ (∃ q, ownsTc c (xstage d 2 c) q (stgV m d 2 c)))
/-- The pieces of the result it fills. -/
def Ps (d : Bool) : sProp 𝕄 :=
  iprop(anyAt c (piece d 0 c) fullShare ∗ anyAt c (piece d 1 c) fullShare ∗ anyAt c (piece d 2 c) fullShare ∗ anyAt c (piece d 3 c) fullShare)
/-- The tokens of the payments it makes. -/
def Ts (d : Bool) : sProp 𝕄 :=
  iprop(tok c (.zs d) 0 0 ∗ tok c (.zs d) 1 0 ∗ tok c (.zs d) 2 0 ∗ tok c (.as d) 0 0 ∗ tok c (.as d) 1 0 ∗ tok c (.as d) 2 0
    ∗ tok c (.loc d) 0 0 ∗ tok c (.loc d) 1 0 ∗ tok c (.loc d) 2 0
    ∗ tok c (.out d) 0 0 ∗ tok c (.out d) 0 1 ∗ tok c (.out d) 0 2 ∗ tok c (.out d) 0 3
    ∗ tok (zn d c) (.zr d 0) 0 0 ∗ tok (zn d c) (.zr d 1) 0 0 ∗ tok (zn d c) (.zr d 2) 0 0
    ∗ tok (an d c) (.ar d 0) 0 0 ∗ tok (an d c) (.ar d 1) 0 0 ∗ tok (an d c) (.ar d 2) 0 0
    ∗ tok (zn (!d) c) (.free d) 0 0)
/-- The cells only it pays, and the cells its neighbours pay with the credit for them. -/
def Qs (d : Bool) : sProp 𝕄 := iprop(pos c (.zs d) 0 ∗ pos c (.as d) 0 ∗ pos c (.loc d) 0 ∗ pos c (.out d) 0)
def Cs (d : Bool) : sProp 𝕄 :=
  iprop((crd c (.zr d 0) N ∗ pos c (.zr d 0) 0) ∗ (crd c (.zr d 1) N ∗ pos c (.zr d 1) 0) ∗ (crd c (.zr d 2) N ∗ pos c (.zr d 2) 0)
    ∗ (crd c (.ar d 0) N ∗ pos c (.ar d 0) 0) ∗ (crd c (.ar d 1) N ∗ pos c (.ar d 1) 0) ∗ (crd c (.ar d 2) N ∗ pos c (.ar d 2) 0)
    ∗ (crd c (.free d) 1 ∗ pos c (.free d) 0))
/-- The tokens of its entry signals. -/
def Bs : sProp 𝕄 := iprop(tok (zn false c) .bar 0 0 ∗ tok (zn true c) .bar 0 1 ∗ tok (an false c) .bar 0 2 ∗ tok (an true c) .bar 0 3)

def DirIn (d : Bool) : sProp 𝕄 :=
  iprop(Xs m c d ∗ Ps c d ∗ Ts c d ∗ Qs c d ∗ Cs c d ∗ anyAt c (locM d) fullShare ∗ slots c d ∗ ags c d)

/-- What it ends with: its cells past their last rounds, its buffers back, its pieces of the result filled. -/
def DirOut (d : Bool) : sProp 𝕄 :=
  iprop((pos c (.zs d) 3 ∗ pos c (.zr d 0) 1 ∗ pos c (.zr d 1) 1 ∗ pos c (.zr d 2) 1 ∗ pos c (.as d) 3 ∗ pos c (.ar d 0) 1 ∗ pos c (.ar d 1) 1
      ∗ pos c (.ar d 2) 1 ∗ pos c (.loc d) 3 ∗ pos c (.out d) 1 ∗ pos c (.free d) 1)
    ∗ (anyAt c (locM d) fullShare ∗ anyAt c (slot d 0) fullShare.left ∗ anyAt c (slot d 0) fullShare.right ∗ anyAt c (slot d 1) fullShare
      ∗ anyAt c (ag d 0) fullShare.left ∗ anyAt c (ag d 0) fullShare.right ∗ anyAt c (ag d 1) fullShare.left ∗ anyAt c (ag d 1) fullShare.right
      ∗ anyAt c (ag d 2) fullShare.left ∗ anyAt c (ag d 2) fullShare.right)
    ∗ (ownsTc c (piece d 0 c) fullShare (fin m d c) ∗ ownsTc c (piece d 1 c) fullShare (gath0 m d c)
      ∗ ownsTc c (piece d 2 c) fullShare (gath1 m d c) ∗ ownsTc c (piece d 3 c) fullShare (gath2 m d c)))

def Pre : sProp 𝕄 := iprop(DirIn m c true ∗ DirIn m c false ∗ Bs c ∗ (crd c .bar 4 ∗ pos c .bar 0) ∗ Ow c (dues c))
def Post : sProp 𝕄 := iprop(DirOut m c true ∗ DirOut m c false ∗ pos c .bar 1 ∗ Ow c [])

theorem prog_wp {k : PUnit → Pg F} {Q : PUnit → sProp 𝕄} :
    iprop(Env m K ∗ Pre m c) ⊢ iprop((Post m c -∗ WP c (k ⟨⟩) Q) -∗ WP c (prog c >>= k) Q) := by
  unfold Pre DirIn Post Xs Ps Ts Qs Cs Bs dues prog
  simp only [Prog.bind_assoc]
  iintro ⟨#HE, ⟨Xt, Pt, Tt, Qt, Ct, Lt, St, At⟩, ⟨Xf, Pf, Tf, Qf, Cf, Lf, Sf, Af⟩, HB, Hb, HO⟩ Hk
  icases HB with ⟨Bt0, Bf0, Bt1, Bf1⟩
  iapply (entry_wp K (c := c) (l := [(zn true c, .zr true 0), (zn false c, .zr false 0), (zn true c, .zr true 1), (zn false c, .zr false 1), (zn false c, .free true), (zn true c, .zr true 2), (zn true c, .free false), (zn false c, .zr false 2), (an true c, .ar true 0), (an false c, .ar false 0), (an true c, .ar true 1), (an false c, .ar false 1), (an true c, .ar true 2), (an false c, .ar false 2)]) (lv_ok _ _ rfl)) $$ [St Sf At Af Bt0 Bf0 Bt1 Bf1 Hb HO]
  · isplitr; · iexact HE
    isplitl [St]; · iexact St
    isplitl [Sf]; · iexact Sf
    isplitl [At]; · iexact At
    isplitl [Af]; · iexact Af
    isplitl [Bt0]; · iexact Bt0
    isplitl [Bf0]; · iexact Bf0
    isplitl [Bt1]; · iexact Bt1
    isplitl [Bf1]; · iexact Bf1
    isplitl [Hb]; · iexact Hb
    iexact HO
  iintro ⟨Hpb, Nt, Nf, Gt, Gf, HO⟩
  icases Nt with ⟨N0t, N1t⟩
  icases Gt with ⟨G0t, G1t, G2t⟩
  icases Xt with ⟨⟨%q0t, X0t⟩, ⟨%q1t, X1t⟩, ⟨%q2t, X2t⟩, ⟨%q3t, X3t⟩⟩
  icases Pt with ⟨P0t, P1t, P2t, P3t⟩
  icases Tt with ⟨Tz0t, Tz1t, Tz2t, Ta0t, Ta1t, Ta2t, Tl0t, Tl1t, Tl2t, To0t, To1t, To2t, To3t, Tzr0t, Tzr1t, Tzr2t, Tar0t, Tar1t, Tar2t, Tft⟩
  icases Qt with ⟨Qzt, Qat, Qlt, Qot⟩
  icases Ct with ⟨Cz0t, Cz1t, Cz2t, Ca0t, Ca1t, Ca2t, Cft⟩
  icases Nf with ⟨N0f, N1f⟩
  icases Gf with ⟨G0f, G1f, G2f⟩
  icases Xf with ⟨⟨%q0f, X0f⟩, ⟨%q1f, X1f⟩, ⟨%q2f, X2f⟩, ⟨%q3f, X3f⟩⟩
  icases Pf with ⟨P0f, P1f, P2f, P3f⟩
  icases Tf with ⟨Tz0f, Tz1f, Tz2f, Ta0f, Ta1f, Ta2f, Tl0f, Tl1f, Tl2f, To0f, To1f, To2f, To3f, Tzr0f, Tzr1f, Tzr2f, Tar0f, Tar1f, Tar2f, Tff⟩
  icases Qf with ⟨Qzf, Qaf, Qlf, Qof⟩
  icases Cf with ⟨Cz0f, Cz1f, Cz2f, Ca0f, Ca1f, Ca2f, Cff⟩
  iapply (send0_wp K (c := c) (d := true) (l := [(zn false c, .zr false 0), (zn true c, .zr true 1), (zn false c, .zr false 1), (zn false c, .free true), (zn true c, .zr true 2), (zn true c, .free false), (zn false c, .zr false 2), (an true c, .ar true 0), (an false c, .ar false 0), (an true c, .ar true 1), (an false c, .ar false 1), (an true c, .ar true 2), (an false c, .ar false 2)])) $$ [X0t N0t Tz0t Tzr0t HO]
  · isplitr; · iexact HE
    isplitl [X0t]; · iexact X0t
    isplitl [N0t]; · iexact N0t
    isplitl [Tz0t]; · iexact Tz0t
    isplitl [Tzr0t]; · iexact Tzr0t
    iexact HO
  iintro ⟨Cst, HO⟩
  ihave Zt := (pair_intro (F := F) c (.zs true) 0) $$ [Cst Qzt]
  · isplitl [Cst]; · iexact Cst
    iexact Qzt
  iapply (send0_wp K (c := c) (d := false) (l := [(zn true c, .zr true 1), (zn false c, .zr false 1), (zn false c, .free true), (zn true c, .zr true 2), (zn true c, .free false), (zn false c, .zr false 2), (an true c, .ar true 0), (an false c, .ar false 0), (an true c, .ar true 1), (an false c, .ar false 1), (an true c, .ar true 2), (an false c, .ar false 2)])) $$ [X0f N0f Tz0f Tzr0f HO]
  · isplitr; · iexact HE
    isplitl [X0f]; · iexact X0f
    isplitl [N0f]; · iexact N0f
    isplitl [Tz0f]; · iexact Tz0f
    isplitl [Tzr0f]; · iexact Tzr0f
    iexact HO
  iintro ⟨Csf, HO⟩
  ihave Zf := (pair_intro (F := F) c (.zs false) 0) $$ [Csf Qzf]
  · isplitl [Csf]; · iexact Csf
    iexact Qzf
  iapply (stage0_wp K (c := c) (d := true)) $$ [X1t Lt Tl0t Qlt]
  · isplitr; · iexact HE
    isplitl [X1t]; · iexact X1t
    isplitl [Lt]; · iexact Lt
    isplitl [Tl0t]; · iexact Tl0t
    iexact Qlt
  iintro Qlt
  iapply (stage0_wp K (c := c) (d := false)) $$ [X1f Lf Tl0f Qlf]
  · isplitr; · iexact HE
    isplitl [X1f]; · iexact X1f
    isplitl [Lf]; · iexact Lf
    isplitl [Tl0f]; · iexact Tl0f
    iexact Qlf
  iintro Qlf
  iapply (fin0_wp K (c := c) (d := true) (l := [(zn true c, .zr true 1), (zn false c, .zr false 1), (zn false c, .free true), (zn true c, .zr true 2), (zn true c, .free false), (zn false c, .zr false 2), (an true c, .ar true 0), (an false c, .ar false 0), (an true c, .ar true 1), (an false c, .ar false 1), (an true c, .ar true 2), (an false c, .ar false 2)]) (lv_ok _ _ rfl)) $$ [Qlt Zt Cz0t HO]
  · isplitr; · iexact HE
    isplitl [Qlt]; · iexact Qlt
    isplitl [Zt]; · iexact Zt
    isplitl [Cz0t]; · iexact Cz0t
    iexact HO
  iintro ⟨Qlt, Lt, Qzt, Pr0t, St, HO⟩
  iapply (send1_wp K (c := c) (d := true) (l := [(zn false c, .zr false 1), (zn false c, .free true), (zn true c, .zr true 2), (zn true c, .free false), (zn false c, .zr false 2), (an true c, .ar true 0), (an false c, .ar false 0), (an true c, .ar true 1), (an false c, .ar false 1), (an true c, .ar true 2), (an false c, .ar false 2)])) $$ [St N1t Tz1t Qzt Tzr1t HO]
  · isplitr; · iexact HE
    isplitl [St]; · iexact St
    isplitl [N1t]; · iexact N1t
    isplitl [Tz1t]; · iexact Tz1t
    isplitl [Qzt]; · iexact Qzt
    isplitl [Tzr1t]; · iexact Tzr1t
    iexact HO
  iintro ⟨Cst, Qzt, HO⟩
  ihave Zt := (pair_intro (F := F) c (.zs true) 1) $$ [Cst Qzt]
  · isplitl [Cst]; · iexact Cst
    iexact Qzt
  iapply (fin0_wp K (c := c) (d := false) (l := [(zn false c, .zr false 1), (zn false c, .free true), (zn true c, .zr true 2), (zn true c, .free false), (zn false c, .zr false 2), (an true c, .ar true 0), (an false c, .ar false 0), (an true c, .ar true 1), (an false c, .ar false 1), (an true c, .ar true 2), (an false c, .ar false 2)]) (lv_ok _ _ rfl)) $$ [Qlf Zf Cz0f HO]
  · isplitr; · iexact HE
    isplitl [Qlf]; · iexact Qlf
    isplitl [Zf]; · iexact Zf
    isplitl [Cz0f]; · iexact Cz0f
    iexact HO
  iintro ⟨Qlf, Lf, Qzf, Pr0f, Sf, HO⟩
  iapply (send1_wp K (c := c) (d := false) (l := [(zn false c, .free true), (zn true c, .zr true 2), (zn true c, .free false), (zn false c, .zr false 2), (an true c, .ar true 0), (an false c, .ar false 0), (an true c, .ar true 1), (an false c, .ar false 1), (an true c, .ar true 2), (an false c, .ar false 2)])) $$ [Sf N1f Tz1f Qzf Tzr1f HO]
  · isplitr; · iexact HE
    isplitl [Sf]; · iexact Sf
    isplitl [N1f]; · iexact N1f
    isplitl [Tz1f]; · iexact Tz1f
    isplitl [Qzf]; · iexact Qzf
    isplitl [Tzr1f]; · iexact Tzr1f
    iexact HO
  iintro ⟨Csf, Qzf, HO⟩
  ihave Zf := (pair_intro (F := F) c (.zs false) 1) $$ [Csf Qzf]
  · isplitl [Csf]; · iexact Csf
    iexact Qzf
  iapply (stage1_wp K (c := c) (d := true)) $$ [X2t Lt Tl1t Qlt]
  · isplitr; · iexact HE
    isplitl [X2t]; · iexact X2t
    isplitl [Lt]; · iexact Lt
    isplitl [Tl1t]; · iexact Tl1t
    iexact Qlt
  iintro Qlt
  iapply (stage1_wp K (c := c) (d := false)) $$ [X2f Lf Tl1f Qlf]
  · isplitr; · iexact HE
    isplitl [X2f]; · iexact X2f
    isplitl [Lf]; · iexact Lf
    isplitl [Tl1f]; · iexact Tl1f
    iexact Qlf
  iintro Qlf
  iapply (fin1_wp K (c := c) (d := true) (l := [(zn false c, .free true), (zn true c, .zr true 2), (zn true c, .free false), (zn false c, .zr false 2), (an true c, .ar true 0), (an false c, .ar false 0), (an true c, .ar true 1), (an false c, .ar false 1), (an true c, .ar true 2), (an false c, .ar false 2)]) (lv_ok _ _ rfl)) $$ [Qlt Zt Cz1t HO]
  · isplitr; · iexact HE
    isplitl [Qlt]; · iexact Qlt
    isplitl [Zt]; · iexact Zt
    isplitl [Cz1t]; · iexact Cz1t
    iexact HO
  iintro ⟨Qlt, Lt, Qzt, Bt, Pr1t, St, HO⟩
  iapply (free_wp K (c := c) (d := true) (l := [(zn true c, .zr true 2), (zn true c, .free false), (zn false c, .zr false 2), (an true c, .ar true 0), (an false c, .ar false 0), (an true c, .ar true 1), (an false c, .ar false 1), (an true c, .ar true 2), (an false c, .ar false 2)]) (lv_ok _ _ rfl)) $$ [Bt Tft Cft HO]
  · isplitr; · iexact HE
    isplitl [Bt]; · iexact Bt
    isplitl [Tft]; · iexact Tft
    isplitl [Cft]; · iexact Cft
    iexact HO
  iintro ⟨Pft, N0t, HO⟩
  iapply (send2_wp K (c := c) (d := true) (l := [(zn true c, .free false), (zn false c, .zr false 2), (an true c, .ar true 0), (an false c, .ar false 0), (an true c, .ar true 1), (an false c, .ar false 1), (an true c, .ar true 2), (an false c, .ar false 2)])) $$ [St N0t Tz2t Qzt Tzr2t HO]
  · isplitr; · iexact HE
    isplitl [St]; · iexact St
    isplitl [N0t]; · iexact N0t
    isplitl [Tz2t]; · iexact Tz2t
    isplitl [Qzt]; · iexact Qzt
    isplitl [Tzr2t]; · iexact Tzr2t
    iexact HO
  iintro ⟨Cst, Qzt, HO⟩
  ihave Zt := (pair_intro (F := F) c (.zs true) 2) $$ [Cst Qzt]
  · isplitl [Cst]; · iexact Cst
    iexact Qzt
  iapply (fin1_wp K (c := c) (d := false) (l := [(zn true c, .free false), (zn false c, .zr false 2), (an true c, .ar true 0), (an false c, .ar false 0), (an true c, .ar true 1), (an false c, .ar false 1), (an true c, .ar true 2), (an false c, .ar false 2)]) (lv_ok _ _ rfl)) $$ [Qlf Zf Cz1f HO]
  · isplitr; · iexact HE
    isplitl [Qlf]; · iexact Qlf
    isplitl [Zf]; · iexact Zf
    isplitl [Cz1f]; · iexact Cz1f
    iexact HO
  iintro ⟨Qlf, Lf, Qzf, Bf, Pr1f, Sf, HO⟩
  iapply (free_wp K (c := c) (d := false) (l := [(zn false c, .zr false 2), (an true c, .ar true 0), (an false c, .ar false 0), (an true c, .ar true 1), (an false c, .ar false 1), (an true c, .ar true 2), (an false c, .ar false 2)]) (lv_ok _ _ rfl)) $$ [Bf Tff Cff HO]
  · isplitr; · iexact HE
    isplitl [Bf]; · iexact Bf
    isplitl [Tff]; · iexact Tff
    isplitl [Cff]; · iexact Cff
    iexact HO
  iintro ⟨Pff, N0f, HO⟩
  iapply (send2_wp K (c := c) (d := false) (l := [(an true c, .ar true 0), (an false c, .ar false 0), (an true c, .ar true 1), (an false c, .ar false 1), (an true c, .ar true 2), (an false c, .ar false 2)])) $$ [Sf N0f Tz2f Qzf Tzr2f HO]
  · isplitr; · iexact HE
    isplitl [Sf]; · iexact Sf
    isplitl [N0f]; · iexact N0f
    isplitl [Tz2f]; · iexact Tz2f
    isplitl [Qzf]; · iexact Qzf
    isplitl [Tzr2f]; · iexact Tzr2f
    iexact HO
  iintro ⟨Csf, Qzf, HO⟩
  ihave Zf := (pair_intro (F := F) c (.zs false) 2) $$ [Csf Qzf]
  · isplitl [Csf]; · iexact Csf
    iexact Qzf
  iapply (stage2_wp K (c := c) (d := true)) $$ [X3t Lt Tl2t Qlt]
  · isplitr; · iexact HE
    isplitl [X3t]; · iexact X3t
    isplitl [Lt]; · iexact Lt
    isplitl [Tl2t]; · iexact Tl2t
    iexact Qlt
  iintro Qlt
  iapply (stage2_wp K (c := c) (d := false)) $$ [X3f Lf Tl2f Qlf]
  · isplitr; · iexact HE
    isplitl [X3f]; · iexact X3f
    isplitl [Lf]; · iexact Lf
    isplitl [Tl2f]; · iexact Tl2f
    iexact Qlf
  iintro Qlf
  iapply (fin2_wp K (c := c) (d := true) (l := [(an true c, .ar true 0), (an false c, .ar false 0), (an true c, .ar true 1), (an false c, .ar false 1), (an true c, .ar true 2), (an false c, .ar false 2)]) (lv_ok _ _ rfl)) $$ [Qlt Zt Cz2t HO]
  · isplitr; · iexact HE
    isplitl [Qlt]; · iexact Qlt
    isplitl [Zt]; · iexact Zt
    isplitl [Cz2t]; · iexact Cz2t
    iexact HO
  iintro ⟨Qlt, Lt, Qzt, S1t, Pr2t, St, HO⟩
  iapply (fin2_wp K (c := c) (d := false) (l := [(an true c, .ar true 0), (an false c, .ar false 0), (an true c, .ar true 1), (an false c, .ar false 1), (an true c, .ar true 2), (an false c, .ar false 2)]) (lv_ok _ _ rfl)) $$ [Qlf Zf Cz2f HO]
  · isplitr; · iexact HE
    isplitl [Qlf]; · iexact Qlf
    isplitl [Zf]; · iexact Zf
    isplitl [Cz2f]; · iexact Cz2f
    iexact HO
  iintro ⟨Qlf, Lf, Qzf, S1f, Pr2f, Sf, HO⟩
  iapply (hop0_wp K (c := c) (d := true) (l := [(an false c, .ar false 0), (an true c, .ar true 1), (an false c, .ar false 1), (an true c, .ar true 2), (an false c, .ar false 2)])) $$ [St G0t Ta0t Tar0t HO]
  · isplitr; · iexact HE
    isplitl [St]; · iexact St
    isplitl [G0t]; · iexact G0t
    isplitl [Ta0t]; · iexact Ta0t
    isplitl [Tar0t]; · iexact Tar0t
    iexact HO
  iintro ⟨Cat, St, HO⟩
  ihave At := (pair_intro (F := F) c (.as true) 0) $$ [Cat Qat]
  · isplitl [Cat]; · iexact Cat
    iexact Qat
  iapply (hop0_wp K (c := c) (d := false) (l := [(an true c, .ar true 1), (an false c, .ar false 1), (an true c, .ar true 2), (an false c, .ar false 2)])) $$ [Sf G0f Ta0f Tar0f HO]
  · isplitr; · iexact HE
    isplitl [Sf]; · iexact Sf
    isplitl [G0f]; · iexact G0f
    isplitl [Ta0f]; · iexact Ta0f
    isplitl [Tar0f]; · iexact Tar0f
    iexact HO
  iintro ⟨Caf, Sf, HO⟩
  ihave Af := (pair_intro (F := F) c (.as false) 0) $$ [Caf Qaf]
  · isplitl [Caf]; · iexact Caf
    iexact Qaf
  iapply (out0_wp K (c := c) (d := true)) $$ [St P0t To0t]
  · isplitr; · iexact HE
    isplitl [St]; · iexact St
    isplitl [P0t]; · iexact P0t
    iexact To0t
  iintro Co0t
  iapply (out0_wp K (c := c) (d := false)) $$ [Sf P0f To0f]
  · isplitr; · iexact HE
    isplitl [Sf]; · iexact Sf
    isplitl [P0f]; · iexact P0f
    iexact To0f
  iintro Co0f
  iapply (hop1_wp K (c := c) (d := true) (l := [(an false c, .ar false 1), (an true c, .ar true 2), (an false c, .ar false 2)]) (lv_ok _ _ rfl)) $$ [At Ca0t P1t To1t G1t Ta1t Tar1t HO]
  · isplitr; · iexact HE
    isplitl [At]; · iexact At
    isplitl [Ca0t]; · iexact Ca0t
    isplitl [P1t]; · iexact P1t
    isplitl [To1t]; · iexact To1t
    isplitl [G1t]; · iexact G1t
    isplitl [Ta1t]; · iexact Ta1t
    isplitl [Tar1t]; · iexact Tar1t
    iexact HO
  iintro ⟨Qat, Cat, S0lt, Pa0t, Co1t, HO⟩
  ihave At := (pair_intro (F := F) c (.as true) 1) $$ [Cat Qat]
  · isplitl [Cat]; · iexact Cat
    iexact Qat
  iapply (hop1_wp K (c := c) (d := false) (l := [(an true c, .ar true 2), (an false c, .ar false 2)]) (lv_ok _ _ rfl)) $$ [Af Ca0f P1f To1f G1f Ta1f Tar1f HO]
  · isplitr; · iexact HE
    isplitl [Af]; · iexact Af
    isplitl [Ca0f]; · iexact Ca0f
    isplitl [P1f]; · iexact P1f
    isplitl [To1f]; · iexact To1f
    isplitl [G1f]; · iexact G1f
    isplitl [Ta1f]; · iexact Ta1f
    isplitl [Tar1f]; · iexact Tar1f
    iexact HO
  iintro ⟨Qaf, Caf, S0lf, Pa0f, Co1f, HO⟩
  ihave Af := (pair_intro (F := F) c (.as false) 1) $$ [Caf Qaf]
  · isplitl [Caf]; · iexact Caf
    iexact Qaf
  iapply (hop2_wp K (c := c) (d := true) (l := [(an false c, .ar false 2)]) (lv_ok _ _ rfl)) $$ [At Ca1t P2t To2t G2t Ta2t Tar2t HO]
  · isplitr; · iexact HE
    isplitl [At]; · iexact At
    isplitl [Ca1t]; · iexact Ca1t
    isplitl [P2t]; · iexact P2t
    isplitl [To2t]; · iexact To2t
    isplitl [G2t]; · iexact G2t
    isplitl [Ta2t]; · iexact Ta2t
    isplitl [Tar2t]; · iexact Tar2t
    iexact HO
  iintro ⟨Qat, Cat, A0lt, Pa1t, Co2t, HO⟩
  ihave At := (pair_intro (F := F) c (.as true) 2) $$ [Cat Qat]
  · isplitl [Cat]; · iexact Cat
    iexact Qat
  iapply (hop2_wp K (c := c) (d := false) (l := []) (lv_ok _ _ rfl)) $$ [Af Ca1f P2f To2f G2f Ta2f Tar2f HO]
  · isplitr; · iexact HE
    isplitl [Af]; · iexact Af
    isplitl [Ca1f]; · iexact Ca1f
    isplitl [P2f]; · iexact P2f
    isplitl [To2f]; · iexact To2f
    isplitl [G2f]; · iexact G2f
    isplitl [Ta2f]; · iexact Ta2f
    isplitl [Tar2f]; · iexact Tar2f
    iexact HO
  iintro ⟨Qaf, Caf, A0lf, Pa1f, Co2f, HO⟩
  ihave Af := (pair_intro (F := F) c (.as false) 2) $$ [Caf Qaf]
  · isplitl [Caf]; · iexact Caf
    iexact Qaf
  iapply (hop3_wp K (c := c) (d := true) (l := []) (lv_ok _ _ rfl)) $$ [At Ca2t P3t To3t HO]
  · isplitr; · iexact HE
    isplitl [At]; · iexact At
    isplitl [Ca2t]; · iexact Ca2t
    isplitl [P3t]; · iexact P3t
    isplitl [To3t]; · iexact To3t
    iexact HO
  iintro ⟨Qat, A1lt, Pa2t, A2lt, Co3t, HO⟩
  iapply (hop3_wp K (c := c) (d := false) (l := []) (lv_ok _ _ rfl)) $$ [Af Ca2f P3f To3f HO]
  · isplitr; · iexact HE
    isplitl [Af]; · iexact Af
    isplitl [Ca2f]; · iexact Ca2f
    isplitl [P3f]; · iexact P3f
    isplitl [To3f]; · iexact To3f
    iexact HO
  iintro ⟨Qaf, A1lf, Pa2f, A2lf, Co3f, HO⟩
  ihave Ot := (PO_start (m := m) (c := c) (d := true)) $$ Qot
  ihave Of := (PO_start (m := m) (c := c) (d := false)) $$ Qof
  unfold pWait0
  iapply (outwait_wp K (c := c) (d := true) (j := 0) (n := 0)) $$ [Ot Co0t HO]
  · isplitr; · iexact HE
    isplitl [Ot]; · iexact Ot
    isplitl [Co0t]; · iexact Co0t
    iexact HO
  iintro ⟨Ot, HO⟩
  iapply (outwait_wp K (c := c) (d := false) (j := 0) (n := 0)) $$ [Of Co0f HO]
  · isplitr; · iexact HE
    isplitl [Of]; · iexact Of
    isplitl [Co0f]; · iexact Co0f
    iexact HO
  iintro ⟨Of, HO⟩
  unfold pWait1
  iapply (outwait_wp K (c := c) (d := true) (j := 1) (n := (0 + N))) $$ [Ot Co1t HO]
  · isplitr; · iexact HE
    isplitl [Ot]; · iexact Ot
    isplitl [Co1t]; · iexact Co1t
    iexact HO
  iintro ⟨Ot, HO⟩
  iapply (outwait_wp K (c := c) (d := false) (j := 1) (n := (0 + N))) $$ [Of Co1f HO]
  · isplitr; · iexact HE
    isplitl [Of]; · iexact Of
    isplitl [Co1f]; · iexact Co1f
    iexact HO
  iintro ⟨Of, HO⟩
  unfold pWait2
  iapply (outwait_wp K (c := c) (d := true) (j := 2) (n := (0 + N + N))) $$ [Ot Co2t HO]
  · isplitr; · iexact HE
    isplitl [Ot]; · iexact Ot
    isplitl [Co2t]; · iexact Co2t
    iexact HO
  iintro ⟨Ot, HO⟩
  iapply (outwait_wp K (c := c) (d := false) (j := 2) (n := (0 + N + N))) $$ [Of Co2f HO]
  · isplitr; · iexact HE
    isplitl [Of]; · iexact Of
    isplitl [Co2f]; · iexact Co2f
    iexact HO
  iintro ⟨Of, HO⟩
  unfold pWait3
  iapply (outlast_wp K (c := c) (d := true) (j := 3) (n := 0 + N + N + N) (by omega)) $$ [Ot Co3t HO]
  · isplitr; · iexact HE
    isplitl [Ot]; · iexact Ot
    isplitl [Co3t]; · iexact Co3t
    iexact HO
  iintro ⟨Qot, W0t, W1t, W2t, W3t, HO⟩
  iapply (outlast_wp K (c := c) (d := false) (j := 3) (n := 0 + N + N + N) (by omega)) $$ [Of Co3f HO]
  · isplitr; · iexact HE
    isplitl [Of]; · iexact Of
    isplitl [Co3f]; · iexact Co3f
    iexact HO
  iintro ⟨Qof, W0f, W1f, W2f, W3f, HO⟩
  ihave W0t := (Entails.of_eq (pay_out0 m c true 0)) $$ W0t
  icases W0t with ⟨Y0t, R0t⟩
  ihave W1t := (Entails.of_eq (pay_out1 m c true 0)) $$ W1t
  icases W1t with ⟨Y1t, R1t⟩
  ihave W2t := (Entails.of_eq (pay_out2 m c true 0)) $$ W2t
  icases W2t with ⟨Y2t, R2t⟩
  ihave W3t := (Entails.of_eq (pay_out3 m c true 0)) $$ W3t
  icases W3t with ⟨Y3t, R3t⟩
  ihave W0f := (Entails.of_eq (pay_out0 m c false 0)) $$ W0f
  icases W0f with ⟨Y0f, R0f⟩
  ihave W1f := (Entails.of_eq (pay_out1 m c false 0)) $$ W1f
  icases W1f with ⟨Y1f, R1f⟩
  ihave W2f := (Entails.of_eq (pay_out2 m c false 0)) $$ W2f
  icases W2f with ⟨Y2f, R2f⟩
  ihave W3f := (Entails.of_eq (pay_out3 m c false 0)) $$ W3f
  icases W3f with ⟨Y3f, R3f⟩
  iapply Hk
  isplitl [Qzt Pr0t Pr1t Pr2t Qat Pa0t Pa1t Pa2t Qlt Qot Pft Lt S0lt R0t S1t A0lt R1t A1lt R2t A2lt R3t Y0t Y1t Y2t Y3t]
  · unfold DirOut
    isplitl [Qzt Pr0t Pr1t Pr2t Qat Pa0t Pa1t Pa2t Qlt Qot Pft]
    · skip
      isplitl [Qzt]; · iexact Qzt
      isplitl [Pr0t]; · iexact Pr0t
      isplitl [Pr1t]; · iexact Pr1t
      isplitl [Pr2t]; · iexact Pr2t
      isplitl [Qat]; · iexact Qat
      isplitl [Pa0t]; · iexact Pa0t
      isplitl [Pa1t]; · iexact Pa1t
      isplitl [Pa2t]; · iexact Pa2t
      isplitl [Qlt]; · iexact Qlt
      isplitl [Qot]; · iexact Qot
      iexact Pft
    isplitl [Lt S0lt R0t S1t A0lt R1t A1lt R2t A2lt R3t]
    · skip
      isplitl [Lt]; · iexact Lt
      isplitl [S0lt]; · iexact S0lt
      isplitl [R0t]; · iexact R0t
      isplitl [S1t]; · iexact S1t
      isplitl [A0lt]; · iexact A0lt
      isplitl [R1t]; · iexact R1t
      isplitl [A1lt]; · iexact A1lt
      isplitl [R2t]; · iexact R2t
      isplitl [A2lt]; · iexact A2lt
      iexact R3t
    isplitl [Y0t]; · iexact Y0t
    isplitl [Y1t]; · iexact Y1t
    isplitl [Y2t]; · iexact Y2t
    iexact Y3t
  isplitl [Qzf Pr0f Pr1f Pr2f Qaf Pa0f Pa1f Pa2f Qlf Qof Pff Lf S0lf R0f S1f A0lf R1f A1lf R2f A2lf R3f Y0f Y1f Y2f Y3f]
  · unfold DirOut
    isplitl [Qzf Pr0f Pr1f Pr2f Qaf Pa0f Pa1f Pa2f Qlf Qof Pff]
    · skip
      isplitl [Qzf]; · iexact Qzf
      isplitl [Pr0f]; · iexact Pr0f
      isplitl [Pr1f]; · iexact Pr1f
      isplitl [Pr2f]; · iexact Pr2f
      isplitl [Qaf]; · iexact Qaf
      isplitl [Pa0f]; · iexact Pa0f
      isplitl [Pa1f]; · iexact Pa1f
      isplitl [Pa2f]; · iexact Pa2f
      isplitl [Qlf]; · iexact Qlf
      isplitl [Qof]; · iexact Qof
      iexact Pff
    isplitl [Lf S0lf R0f S1f A0lf R1f A1lf R2f A2lf R3f]
    · skip
      isplitl [Lf]; · iexact Lf
      isplitl [S0lf]; · iexact S0lf
      isplitl [R0f]; · iexact R0f
      isplitl [S1f]; · iexact S1f
      isplitl [A0lf]; · iexact A0lf
      isplitl [R1f]; · iexact R1f
      isplitl [A1lf]; · iexact A1lf
      isplitl [R2f]; · iexact R2f
      isplitl [A2lf]; · iexact A2lf
      iexact R3f
    isplitl [Y0f]; · iexact Y0f
    isplitl [Y1f]; · iexact Y1f
    isplitl [Y2f]; · iexact Y2f
    iexact Y3f
  isplitl [Hpb]; · iexact Hpb
  iexact HO

end Cert.KernelIdealRun
-- ==== Proof.KernelIdealRun.Ghost.lean ====
/-
Setting up the protocol at launch: the tokens minted for every cell and dealt to the devices that pay with them, the
cells' invariants, and each device's credit for what its neighbours owe it.
-/
module

public import proofs.«01_k».proof.Proof.KernelIdealRun.Body
public import Idealize.ShloMosaic.Lib.Pipeline.CollectiveSegs

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

omit [FloatOps F] in
theorem chain_one {I : Type} (a : I) (Φ : I → sProp 𝕄) : bigSepL [a] Φ = Φ a := rfl
omit [FloatOps F] in
theorem chain_cons {I : Type} (a b : I) (l : List I) (Φ : I → sProp 𝕄) : bigSepL (a :: b :: l) Φ = iprop(Φ a ∗ bigSepL (b :: l) Φ) := rfl

/-! ## The tokens -/

/-- One direction's tokens: whose cell's, in which round, for which duty, and the device that pays with it for `c`'s
    sake: device `c` holds the token of device `tkE d n c`. The last two are the direction's entry signals. -/
abbrev TI : Type := Bool × Fin 22
def tkK (d : Bool) : Fin 22 → Cl := ![.zs d, .zs d, .zs d, .as d, .as d, .as d, .loc d, .loc d, .loc d, .out d, .out d, .out d, .out d,
  .zr d 0, .zr d 1, .zr d 2, .ar d 0, .ar d 1, .ar d 2, .free d, .bar, .bar]
def tkR : Fin 22 → ℕ := ![0, 1, 2, 0, 1, 2, 0, 1, 2, 0, 0, 0, 0, 0, 0, 0, 0, 0, 0, 0, 0, 0]
def tkI : Bool → Fin 22 → Fin 4
  | true => ![0, 0, 0, 0, 0, 0, 0, 0, 0, 0, 1, 2, 3, 0, 0, 0, 0, 0, 0, 0, 1, 3]
  | false => ![0, 0, 0, 0, 0, 0, 0, 0, 0, 0, 1, 2, 3, 0, 0, 0, 0, 0, 0, 0, 0, 2]
def tkE (d : Bool) : Fin 22 → (Dev nD ≃ Dev nD) :=
  ![.refl _, .refl _, .refl _, .refl _, .refl _, .refl _, .refl _, .refl _, .refl _, .refl _, .refl _, .refl _, .refl _,
    zEquiv d, zEquiv d, zEquiv d, aEquiv d, aEquiv d, aEquiv d, zEquiv (!d), zEquiv d, aEquiv d]

abbrev tokOf (x : TI × Dev nD) : GSem nD τ sig × ℕ × Fin 4 := (cell x.2 (tkK x.1.1 x.1.2), tkR x.1.2, tkI x.1.1 x.1.2)

theorem tk_inj : ∀ t t' : TI, (tkK t.1 t.2, tkR t.2, tkI t.1 t.2) = (tkK t'.1 t'.2, tkR t'.2, tkI t'.1 t'.2) → t = t' := by decide +kernel

theorem cell_injective : Function.Injective (fun ck : Dev nD × Cl => cell ck.1 ck.2) := by
  rintro ⟨c, k⟩ ⟨c', k'⟩ h
  have h1 : c = c' := by have := congrArg (fun g : GSem nD τ sig => g.1.1) h; exact this
  have h2 : k = k' := csem_injective (congrArg Prod.snd h)
  rw [h1, h2]

theorem tokOf_injective : Function.Injective tokOf := by
  rintro ⟨t, c⟩ ⟨t', c'⟩ h
  have h0 := cell_injective (a₁ := (c, tkK t.1 t.2)) (a₂ := (c', tkK t'.1 t'.2)) (congrArg Prod.fst h)
  have hc : c = c' := congrArg Prod.fst h0
  have ht : t = t' := tk_inj t t' (by
    rw [Prod.mk.injEq]; exact ⟨congrArg Prod.snd h0, congrArg Prod.snd h⟩)
  rw [hc, ht]

def theCells : Finset (GSem nD τ sig) := Finset.univ.map ⟨fun ck : Dev nD × Cl => cell ck.1 ck.2, cell_injective⟩
def theToks : Finset (GSem nD τ sig × ℕ × Fin 4) := Finset.univ.map ⟨tokOf, tokOf_injective⟩

def u₀ : UU := (initOf (Pipeline.cells cfgs cellOf_inj) (Pipeline.launchToks cfgs cellOf_inj), initOf theCells theToks)

variable (m : (ℓ : Loc nD τ sig) → Buf (Elt F) ℓ)

/-- What a device is dealt first: its cells' states and positions and its own cells' tokens; -/
def G (c : Dev nD) : sProp 𝕄 :=
  iprop((bigSep Finset.univ fun k : Cl => roundState ER (Rd m) (cell c k) 0)
    ∗ (bigSep Finset.univ fun k : Cl => atPos ER (cell c k) 0 ∅ 0) ∗ (bigSep Finset.univ fun k : Cl => reached ER (cell c k) 0)
    ∗ bigSep Finset.univ fun t : TI => tok c (tkK t.1 t.2) (tkR t.2) (tkI t.1 t.2))
/-- and after all devices' are put together: the invariants, its positions, and the tokens it pays with. -/
def G' (c : Dev nD) : sProp 𝕄 :=
  iprop(∃ K : Dev nD × Cl → ℕ, (bigSep Finset.univ fun ck : Dev nD × Cl => cellInv ER (Rd m) (K ck) (cell ck.1 ck.2))
    ∗ (bigSep Finset.univ fun ck : Dev nD × Cl => reached ER (cell ck.1 ck.2) 0)
    ∗ (bigSep Finset.univ fun k : Cl => atPos ER (cell c k) 0 ∅ 0)
    ∗ bigSep Finset.univ fun t : TI => tok (tkE t.1 t.2 c) (tkK t.1 t.2) (tkR t.2) (tkI t.1 t.2))

omit [FloatOps F] in
theorem cells_eq (Φ : GSem nD τ sig → sProp 𝕄) :
    bigSep theCells Φ = bigSep Finset.univ fun c : Dev nD => bigSep Finset.univ fun k : Cl => Φ (cell c k) := by
  unfold theCells; rw [bigSep_map, bigSep_univ_prod]; rfl

omit [FloatOps F] in
theorem swap (Φ : TI → Dev nD → sProp 𝕄) :
    (bigSep Finset.univ fun t : TI => bigSep Finset.univ fun c : Dev nD => Φ t c) = bigSep Finset.univ fun c : Dev nD => bigSep Finset.univ fun t : TI => Φ t c := by
  rw [← bigSep_univ_prod (fun x : TI × Dev nD => Φ x.1 x.2), bigSep_univ_equiv (Equiv.prodComm (Dev nD) TI), bigSep_univ_prod]
  rfl

omit [FloatOps F] in
theorem toks_eq : (bigSep theToks fun x => (dutyTok ER x.1 x.2.1 x.2.2 : sProp 𝕄))
    = bigSep Finset.univ fun c : Dev nD => bigSep Finset.univ fun t : TI => tok c (tkK t.1 t.2) (tkR t.2) (tkI t.1 t.2) := by
  unfold theToks
  rw [bigSep_map, bigSep_univ_prod, ← swap (fun t c => tok (F := F) c (tkK t.1 t.2) (tkR t.2) (tkI t.1 t.2))]
  rfl

omit [FloatOps F] in
/-- Every token goes to the device that pays with it. -/
theorem deal : (bigSep Finset.univ fun c : Dev nD => bigSep Finset.univ fun t : TI => tok (F := F) c (tkK t.1 t.2) (tkR t.2) (tkI t.1 t.2))
    = bigSep Finset.univ fun c : Dev nD => bigSep Finset.univ fun t : TI => tok (tkE t.1 t.2 c) (tkK t.1 t.2) (tkR t.2) (tkI t.1 t.2) := by
  rw [← swap (fun t c => tok (F := F) c (tkK t.1 t.2) (tkR t.2) (tkI t.1 t.2)),
    ← swap (fun t c => tok (F := F) (tkE t.1 t.2 c) (tkK t.1 t.2) (tkR t.2) (tkI t.1 t.2))]
  exact bigSep_congr fun t _ => bigSep_univ_equiv (tkE t.1 t.2) fun c => tok (F := F) c (tkK t.1 t.2) (tkR t.2) (tkI t.1 t.2)

theorem fund : BI.own (ER (initOf theCells theToks)) ⊢ (|==> bigSep Finset.univ (G m) : sProp 𝕄) := by
  iintro HX
  imod (Rounds.fund ER (Rd m) theCells theToks) $$ HX with ⟨Hst, Hr, Hat, Htok⟩
  imodintro
  ihave Hst := (Entails.of_eq (cells_eq fun g => roundState ER (Rd m) g 0)) $$ Hst
  ihave Hat := (Entails.of_eq (cells_eq fun g => (atPos ER g 0 ∅ 0 : sProp 𝕄))) $$ Hat
  ihave Hr := (Entails.of_eq (cells_eq fun g => (reached ER g 0 : sProp 𝕄))) $$ Hr
  ihave Htok := (Entails.of_eq (toks_eq (F := F))) $$ Htok
  unfold G; simp only [bigSep_sep']
  isplitl [Hst]; · iexact Hst
  isplitl [Hat]; · iexact Hat
  isplitl [Hr]; · iexact Hr
  iexact Htok

/-! ## The invariants -/

/-- The semaphores allocated for the kernel; the entry barrier's is not among them. -/
abbrev osem : Fin 22 → SemLoc sig := fun i => if h : i.val < 20 then .dma (⟨i.val, h⟩ : Fin 20) else .reg (⟨i.val - 20, by have := i.isLt; omega⟩ : Fin 3)

theorem ownSemFacts : Pipeline.OwnSemFacts cfg0.spec osem := by decide

omit [FloatOps F] in
theorem ownSems0_eq (c : Dev nD) : (Pipeline.ownSems0 (Ix := Unit) (Name := ℕ) (U := UU) (Lvl := ℕ) (Val := Elt F) (τ := τ) osem c : sProp 𝕄)
    = bigSepL [(0 : Fin 22), 1, 2, 3, 4, 5, 6, 7, 8, 9, 10, 11, 12, 13, 14, 15, 16, 17, 18, 19, 20, 21] fun i => semVal ((c : Thread nD τ), osem i) 0 :=
  Pipeline.ownSems0_eq_of_list c osem _ (by decide) (by decide)
omit [FloatOps F] in
theorem unscopedSems0_eq (c : Dev nD) : (unscopedSems0 c : sProp 𝕄) = semVal (cell c .bar) 0 := by
  unfold unscopedSems0; rw [bigSep_eq_bigSepL_of_eq [SemLoc.reg barS] (by decide) (by decide)]; rfl

omit [FloatOps F] in
/-- All cells, in the order of `allCl`. -/
theorem allCl_eq (Φ : Cl → sProp 𝕄) : bigSep Finset.univ Φ = bigSepL allCl Φ := bigSep_univ_eq_bigSepL allCl (by decide) allCl_nodup Φ

omit [FloatOps F] in
theorem sems_eq (c : Dev nD) :
    iprop(Pipeline.ownSems0 (Ix := Unit) (Name := ℕ) (U := UU) (Lvl := ℕ) (Val := Elt F) (τ := τ) osem c ∗ unscopedSems0 c)
      ⊢ (bigSep Finset.univ fun k : Cl => semVal (cell c k) 0 : sProp 𝕄) := by
  rw [ownSems0_eq, unscopedSems0_eq, allCl_eq]
  unfold allCl
  simp only [chain_one, chain_cons]
  iintro ⟨⟨S0, S1, S2, S3, S4, S5, S6, S7, S8, S9, S10, S11, S12, S13, S14, S15, S16, S17, S18, S19, S20, S21⟩, HB⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  isplitl [S21]; · iexact S21
  iexact HB

omit [FloatOps F] in
/-- and back, when every cell is empty again. -/
theorem sems_eq' (c : Dev nD) :
    (bigSep Finset.univ fun k : Cl => semVal (cell c k) 0 : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, allCl_eq]
  unfold allCl
  simp only [chain_one, chain_cons]
  iintro ⟨S0, S1, S2, S3, S4, S5, S6, S7, S8, S9, S10, S11, S12, S13, S14, S15, S16, S17, S18, S19, S20, S21, HB⟩
  isplitl [HB]; · iexact HB
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  iexact S21

theorem alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cl => iprop(∃ κ : ℕ, cellInv ER (Rd m) κ (cell c k)))
          ∗ (bigSep Finset.univ fun k : Cl => atPos ER (cell c k) 0 ∅ 0) ∗ (bigSep Finset.univ fun k : Cl => reached ER (cell c k) 0)
          ∗ bigSep Finset.univ fun t : TI => tok c (tkK t.1 t.2) (tkR t.2) (tkI t.1 t.2)) := by
  unfold G
  iintro ⟨Hos, Hus, Hst, Hat, Hr, Htok⟩
  ihave Hv := (sems_eq (F := F) c) $$ [Hos Hus]
  · isplitl [Hos] <;> iassumption
  imod (show iprop((bigSep Finset.univ fun k : Cl => semVal (cell c k) 0) ∗ bigSep Finset.univ fun k : Cl => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  iexact Htok

omit [FloatOps F] in
/-- What every device knows, told to each along with its own. -/
theorem tell {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k : Cl => iprop(∃ κ : ℕ, cellInv ER (Rd m) κ (cell c k)))
          ∗ (bigSep Finset.univ fun k : Cl => atPos ER (cell c k) 0 ∅ 0) ∗ (bigSep Finset.univ fun k : Cl => reached ER (cell c k) 0)
          ∗ bigSep Finset.univ fun t : TI => tok c (tkK t.1 t.2) (tkR t.2) (tkI t.1 t.2)) : sProp 𝕄)
      ⊢ bigSep Finset.univ (G' m) := by
  rw [bigSep_sep', bigSep_sep', bigSep_sep', deal, ← bigSep_univ_prod (fun ck : Dev nD × Cl => iprop(∃ κ : ℕ, cellInv ER (Rd m) κ (cell ck.1 ck.2))),
    ← bigSep_univ_prod (fun ck : Dev nD × Cl => (reached ER (cell ck.1 ck.2) 0 : sProp 𝕄))]
  iintro ⟨HI, Hat, #HR, Htok⟩
  ihave HK := (BI.bigSep_exists_pi Finset.univ (fun (ck : Dev nD × Cl) (κ : ℕ) => (cellInv ER (Rd m) κ (cell ck.1 ck.2) : sProp 𝕄))) $$ HI
  icases HK with ⟨%K, #HI⟩
  iapply (tell (F := F) (R := iprop((bigSep Finset.univ fun ck : Dev nD × Cl => cellInv ER (Rd m) (K ck) (cell ck.1 ck.2))
      ∗ bigSep Finset.univ fun ck : Dev nD × Cl => reached ER (cell ck.1 ck.2) 0))
    (Φ := fun c => iprop((bigSep Finset.univ fun k : Cl => atPos ER (cell c k) 0 ∅ 0)
      ∗ bigSep Finset.univ fun t : TI => tok (tkE t.1 t.2 c) (tkK t.1 t.2) (tkR t.2) (tkI t.1 t.2)))
    (fun c => by
      unfold G'
      iintro ⟨⟨#HI, #HR⟩, Hat, Htok⟩
      iexists K
      isplitr; · iexact HI
      isplitr; · iexact HR
      isplitl [Hat]; · iexact Hat
      iexact Htok))
  isplitr
  · isplitr; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (regroup m))

/-! ## A device's share of it -/

omit [FloatOps F] in
theorem ti_eq (d : Bool) (Φ : Fin 22 → sProp 𝕄) : bigSep Finset.univ Φ
    = bigSepL [(0 : Fin 22), 1, 2, 3, 4, 5, 6, 7, 8, 9, 10, 11, 12, 13, 14, 15, 16, 17, 18, 19, 20, 21] Φ :=
  bigSep_univ_eq_bigSepL _ (by decide) (by decide) Φ
omit [FloatOps F] in
theorem bool_eq (Φ : Bool → sProp 𝕄) : bigSep Finset.univ Φ = iprop(Φ true ∗ Φ false) := bigSep_univ_eq_bigSepL [true, false] (by decide) (by decide) Φ

omit [FloatOps F] in
/-- The tokens a device pays with, as the body has them. -/
theorem toks_split (c : Dev nD) : (bigSep Finset.univ fun t : TI => tok (F := F) (tkE t.1 t.2 c) (tkK t.1 t.2) (tkR t.2) (tkI t.1 t.2))
    ⊢ iprop(Ts c true ∗ Ts c false ∗ Bs c) := by
  rw [bigSep_univ_prod, bool_eq, ti_eq true, ti_eq false]
  unfold Ts Bs
  simp only [chain_one, chain_cons]
  iintro ⟨⟨T0, T1, T2, T3, T4, T5, T6, T7, T8, T9, T10, T11, T12, T13, T14, T15, T16, T17, T18, T19, T20, T21⟩, F0, F1, F2, F3, F4, F5, F6, F7, F8, F9, F10, F11, F12, F13, F14, F15, F16, F17, F18, F19, F20, F21⟩
  isplitl [T0 T1 T2 T3 T4 T5 T6 T7 T8 T9 T10 T11 T12 T13 T14 T15 T16 T17 T18 T19]
  · skip
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    iexact T19
  isplitl [F0 F1 F2 F3 F4 F5 F6 F7 F8 F9 F10 F11 F12 F13 F14 F15 F16 F17 F18 F19]
  · skip
    isplitl [F0]; · iexact F0
    isplitl [F1]; · iexact F1
    isplitl [F2]; · iexact F2
    isplitl [F3]; · iexact F3
    isplitl [F4]; · iexact F4
    isplitl [F5]; · iexact F5
    isplitl [F6]; · iexact F6
    isplitl [F7]; · iexact F7
    isplitl [F8]; · iexact F8
    isplitl [F9]; · iexact F9
    isplitl [F10]; · iexact F10
    isplitl [F11]; · iexact F11
    isplitl [F12]; · iexact F12
    isplitl [F13]; · iexact F13
    isplitl [F14]; · iexact F14
    isplitl [F15]; · iexact F15
    isplitl [F16]; · iexact F16
    isplitl [F17]; · iexact F17
    isplitl [F18]; · iexact F18
    iexact F19
  isplitl [F20]; · iexact F20
  isplitl [T20]; · iexact T20
  isplitl [F21]; · iexact F21
  iexact T21

/-! ## The credit -/

/-- Each payment, as a map from the device that makes it to the one whose cell it is. -/
def dueMaps : List ((Dev nD ≃ Dev nD) × Cl) :=
  [(zEquiv false, .bar), (zEquiv true, .bar), (aEquiv false, .bar), (aEquiv true, .bar),
   (zEquiv true, .zr true 0), (zEquiv false, .zr false 0), (zEquiv true, .zr true 1), (zEquiv false, .zr false 1),
   (zEquiv false, .free true), (zEquiv true, .zr true 2), (zEquiv true, .free false), (zEquiv false, .zr false 2),
   (aEquiv true, .ar true 0), (aEquiv false, .ar false 0), (aEquiv true, .ar true 1), (aEquiv false, .ar false 1),
   (aEquiv true, .ar true 2), (aEquiv false, .ar false 2)]

theorem dues_eq (c : Dev nD) : dues c = dueMaps.map fun p => (p.1 c, p.2) := rfl

def crdL (c : Dev nD) : List ((Dev nD ≃ Dev nD) × Cl) → sProp 𝕄
  | [] => iprop(emp)
  | p :: l => iprop(crd c p.2 (amt p.2) ∗ crdL c l)

omit [FloatOps F] in
theorem creds (l : List ((Dev nD ≃ Dev nD) × Cl)) (c : Dev nD) :
    (Pipeline.launchCred (fun d => owedL (l.map fun p => (p.1 d, p.2))) c : sProp 𝕄) ⊢ crdL c l := by
  induction l with
  | nil => exact Entails.of_eq (Pipeline.launchCred_zero c)
  | cons p l ih =>
    have h : (fun d : Dev nD => owedL ((p :: l).map fun p => (p.1 d, p.2)))
        = fun d => owedL (l.map fun p => (p.1 d, p.2)) + tallyAt (cell (p.1 d) p.2) () (amt p.2) := rfl
    rw [h, Pipeline.launchCred_add]
    refine sep_comm.1.trans (BIClass.sep_mono ?_ ih)
    exact Pipeline.launchCred_tallyAt (csem p.2) p.1 p.1.symm p.1.apply_symm_apply p.1.symm_apply_apply () (amt p.2) c

omit [FloatOps F] in
theorem crd_add (c : Dev nD) (k : Cl) (a b : ℕ) : (iprop(crd c k a ∗ crd c k b) : sProp 𝕄) ⊢ crd c k (a + b) := by
  unfold crd; rw [← tallyAt_add]; exact (cred_add _ _).2

/-- A device's credit and positions, as the body has them. -/
theorem creds_split (K : Dev nD × Cl → ℕ) (c : Dev nD) :
    iprop(Env m K ∗ (Pipeline.launchCred (fun d => owedL (dues d)) c : sProp 𝕄) ∗ bigSep Finset.univ fun k : Cl => atPos ER (cell c k) 0 ∅ 0)
      ⊢ iprop(Qs c true ∗ Qs c false ∗ Cs c true ∗ Cs c false ∗ crd c .bar 4 ∗ pos c .bar 0) := by
  have hc : (Pipeline.launchCred (fun d => owedL (dues d)) c : sProp 𝕄) ⊢ crdL c dueMaps := by simp only [dues_eq]; exact creds dueMaps c
  have hk (k : Cl) : iprop(Env m K ∗ atPos ER (cell c k) 0 ∅ 0) ⊢ pos (F := F) c k 0 := by
    iintro ⟨#HE, Hat⟩
    isplitl [Hat]; · iexact Hat
    iapply (Env_reached m K c k); iexact HE
  have hp : iprop(Env m K ∗ bigSep Finset.univ fun k : Cl => atPos ER (cell c k) 0 ∅ 0) ⊢ bigSepL allCl (fun k => pos (F := F) c k 0) := by
    rw [← allCl_eq]
    refine (sep_mono_left (BI.bigSep_of_persistent (Finset.univ : Finset Cl) (Env m K))).trans ?_
    rw [← bigSep_sep']
    exact bigSep_mono fun k _ => hk k
  have h4 : (iprop(crd c .bar 1 ∗ crd c .bar 1 ∗ crd c .bar 1 ∗ crd c .bar 1) : sProp 𝕄) ⊢ crd c .bar 4 := by
    iintro ⟨H1, H2, H3, H4⟩
    ihave H := (crd_add (F := F) c .bar 1 1) $$ [H1 H2]
    · isplitl [H1] <;> iassumption
    ihave H := (crd_add (F := F) c .bar 2 1) $$ [H H3]
    · isplitl [H] <;> iassumption
    iapply (crd_add (F := F) c .bar 3 1)
    isplitl [H] <;> iassumption
  iintro ⟨#HE, Hc, Hp⟩
  ihave Hc := hc $$ Hc
  ihave Hp := hp $$ [Hp]
  · isplitr; · iexact HE
    iexact Hp
  unfold allCl dueMaps Qs Cs
  simp only [chain_one, chain_cons, crdL]
  icases Hp with ⟨Pzst, Pzsf, Pzrt0, Pzrt1, Pzrt2, Pzrf0, Pzrf1, Pzrf2, Past, Pasf, Part0, Part1, Part2, Parf0, Parf1, Parf2, Ploct, Plocf, Poutt, Poutf, Pfreet, Pfreef, Pbar⟩
  icases Hc with ⟨Cb0, Cb1, Cb2, Cb3, Czrt0, Czrf0, Czrt1, Czrf1, Cfreet, Czrt2, Cfreef, Czrf2, Cart0, Carf0, Cart1, Carf1, Cart2, Carf2, -⟩
  isplitl [Pzst Past Ploct Poutt]
  · skip
    isplitl [Pzst]; · iexact Pzst
    isplitl [Past]; · iexact Past
    isplitl [Ploct]; · iexact Ploct
    iexact Poutt
  isplitl [Pzsf Pasf Plocf Poutf]
  · skip
    isplitl [Pzsf]; · iexact Pzsf
    isplitl [Pasf]; · iexact Pasf
    isplitl [Plocf]; · iexact Plocf
    iexact Poutf
  isplitl [Pzrt0 Czrt0 Pzrt1 Czrt1 Pzrt2 Czrt2 Part0 Cart0 Part1 Cart1 Part2 Cart2 Pfreet Cfreet]
  · skip
    isplitl [Pzrt0 Czrt0]
    · isplitl [Czrt0]; · iexact Czrt0
      iexact Pzrt0
    isplitl [Pzrt1 Czrt1]
    · isplitl [Czrt1]; · iexact Czrt1
      iexact Pzrt1
    isplitl [Pzrt2 Czrt2]
    · isplitl [Czrt2]; · iexact Czrt2
      iexact Pzrt2
    isplitl [Part0 Cart0]
    · isplitl [Cart0]; · iexact Cart0
      iexact Part0
    isplitl [Part1 Cart1]
    · isplitl [Cart1]; · iexact Cart1
      iexact Part1
    isplitl [Part2 Cart2]
    · isplitl [Cart2]; · iexact Cart2
      iexact Part2
    isplitl [Cfreet]; · iexact Cfreet
    iexact Pfreet
  isplitl [Pzrf0 Czrf0 Pzrf1 Czrf1 Pzrf2 Czrf2 Parf0 Carf0 Parf1 Carf1 Parf2 Carf2 Pfreef Cfreef]
  · skip
    isplitl [Pzrf0 Czrf0]
    · isplitl [Czrf0]; · iexact Czrf0
      iexact Pzrf0
    isplitl [Pzrf1 Czrf1]
    · isplitl [Czrf1]; · iexact Czrf1
      iexact Pzrf1
    isplitl [Pzrf2 Czrf2]
    · isplitl [Czrf2]; · iexact Czrf2
      iexact Pzrf2
    isplitl [Parf0 Carf0]
    · isplitl [Carf0]; · iexact Carf0
      iexact Parf0
    isplitl [Parf1 Carf1]
    · isplitl [Carf1]; · iexact Carf1
      iexact Parf1
    isplitl [Parf2 Carf2]
    · isplitl [Carf2]; · iexact Carf2
      iexact Parf2
    isplitl [Cfreef]; · iexact Cfreef
    iexact Pfreef
  isplitl [Cb0 Cb1 Cb2 Cb3]
  · iapply h4
    isplitl [Cb0]; · iexact Cb0
    isplitl [Cb1]; · iexact Cb1
    isplitl [Cb2]; · iexact Cb2
    iexact Cb3
  iexact Pbar

end Cert.KernelIdealRun
-- ==== Proof.KernelIdealRun.Bufs.lean ====
/-
The buffers taken apart at the start into the blocks the transfers move, and put together again at the end.
-/
module

public import proofs.«01_k».proof.Proof.KernelIdealRun.Body

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The places of the blocks -/

/-- The place of a device's plane in the xy ring, and which stripe of rows a direction's `j`-th piece of the result is:
    its own, then its predecessors' one after another. -/
def ringPos : Fin 4 → Fin 4 := ![0, 1, 3, 2]
def plane (c : Dev nD) : Fin 4 := ⟨c.val / 4 % 4, Nat.mod_lt _ (by decide)⟩
def stripe (d : Bool) (j : Fin 4) (c : Dev nD) : Fin 4 := if d then ringPos (plane c) - j else ringPos (plane c) + j

theorem offPiece_eq (d : Bool) (j : Fin 4) (c : Dev nD) : offPiece d j c = ![1024 * (stripe d j c).val, if d then 0 else 512] := by
  revert d j c; decide +kernel
theorem stripe_inj : ∀ (d : Bool) (c : Dev nD) (j j' : Fin 4), stripe d j c = stripe d j' c → j = j' := by decide +kernel
theorem stripe_surj : ∀ (d : Bool) (c : Dev nD) (k : Fin 4), ∃ j, stripe d j c = k := by decide +kernel

abbrev rAg (h : Fin 3) : Rect S3x1024x512 := Rect.unit (s := S3x1024x512) ![(h : ℕ), 0, 0] S1x1024x512.size (inb_ag h)
abbrev rOut (c : Dev nD) (t : Bool × Fin 4) : Rect S4096x1024 := rPiece t.1 t.2 c

theorem slot_disj (i i' : Fin 2) (h : i ≠ i') : Disjoint (rSlot i).set (rSlot i').set := by
  refine Rect.unit_disjoint (s := S2x1024x512) (0 : Fin 3) ?_
  show i.val + 1 ≤ i'.val ∨ i'.val + 1 ≤ i.val
  have := Fin.val_ne_of_ne h; omega
theorem ag_disj (i i' : Fin 3) (h : i ≠ i') : Disjoint (rAg i).set (rAg i').set := by
  refine Rect.unit_disjoint (s := S3x1024x512) (0 : Fin 3) ?_
  show i.val + 1 ≤ i'.val ∨ i'.val + 1 ≤ i.val
  have := Fin.val_ne_of_ne h; omega
theorem out_disj (c : Dev nD) (t t' : Bool × Fin 4) (h : t ≠ t') : Disjoint (rOut c t).set (rOut c t').set := by
  obtain ⟨d, j⟩ := t
  obtain ⟨d', j'⟩ := t'
  by_cases hd : d = d'
  · subst hd
    refine Rect.unit_disjoint (s := S4096x1024) (0 : Fin 2) ?_
    show offPiece d j c 0 + 1024 ≤ offPiece d j' c 0 ∨ offPiece d j' c 0 + 1024 ≤ offPiece d j c 0
    rw [offPiece_eq, offPiece_eq]
    show 1024 * (stripe d j c).val + 1024 ≤ 1024 * (stripe d j' c).val ∨ 1024 * (stripe d j' c).val + 1024 ≤ 1024 * (stripe d j c).val
    have hne : (stripe d j c).val ≠ (stripe d j' c).val := fun e => h (by rw [stripe_inj d c j j' (Fin.ext e)])
    omega
  · refine Rect.unit_disjoint (s := S4096x1024) (1 : Fin 2) ?_
    show offPiece d j c 1 + 512 ≤ offPiece d' j' c 1 ∨ offPiece d' j' c 1 + 512 ≤ offPiece d j c 1
    rw [offPiece_eq, offPiece_eq]
    cases d <;> cases d'
    · exact absurd rfl hd
    · right; show 0 + 512 ≤ 512; omega
    · left; show 0 + 512 ≤ 512; omega
    · exact absurd rfl hd

theorem slot_cov : (Finset.univ : Finset (Fin 2)).biUnion (fun i => (rSlot i).set) = Finset.univ := by
  refine Finset.eq_univ_iff_forall.mpr fun x => Finset.mem_biUnion.mpr ?_
  refine ⟨⟨(x (0 : Fin 3)).val, (x (0 : Fin 3)).isLt⟩, Finset.mem_univ _, Rect.mem_set_unit.mpr ?_⟩
  have h1 : (x (1 : Fin 3)).val < 1024 := (x (1 : Fin 3)).isLt
  have h2 : (x (2 : Fin 3)).val < 512 := (x (2 : Fin 3)).isLt
  intro a
  fin_cases a
  · show (x (0 : Fin 3)).val ≤ (x (0 : Fin 3)).val ∧ (x (0 : Fin 3)).val < (x (0 : Fin 3)).val + 1; omega
  · show 0 ≤ (x (1 : Fin 3)).val ∧ (x (1 : Fin 3)).val < 0 + 1024; omega
  · show 0 ≤ (x (2 : Fin 3)).val ∧ (x (2 : Fin 3)).val < 0 + 512; omega
theorem ag_cov : (Finset.univ : Finset (Fin 3)).biUnion (fun i => (rAg i).set) = Finset.univ := by
  refine Finset.eq_univ_iff_forall.mpr fun x => Finset.mem_biUnion.mpr ?_
  refine ⟨⟨(x (0 : Fin 3)).val, (x (0 : Fin 3)).isLt⟩, Finset.mem_univ _, Rect.mem_set_unit.mpr ?_⟩
  have h1 : (x (1 : Fin 3)).val < 1024 := (x (1 : Fin 3)).isLt
  have h2 : (x (2 : Fin 3)).val < 512 := (x (2 : Fin 3)).isLt
  intro a
  fin_cases a
  · show (x (0 : Fin 3)).val ≤ (x (0 : Fin 3)).val ∧ (x (0 : Fin 3)).val < (x (0 : Fin 3)).val + 1; omega
  · show 0 ≤ (x (1 : Fin 3)).val ∧ (x (1 : Fin 3)).val < 0 + 1024; omega
  · show 0 ≤ (x (2 : Fin 3)).val ∧ (x (2 : Fin 3)).val < 0 + 512; omega
theorem out_cov (c : Dev nD) : (Finset.univ : Finset (Bool × Fin 4)).biUnion (fun t => (rOut c t).set) = Finset.univ := by
  refine Finset.eq_univ_iff_forall.mpr fun x => Finset.mem_biUnion.mpr ?_
  have h0 : (x (0 : Fin 2)).val < 4096 := (x (0 : Fin 2)).isLt
  have h1 : (x (1 : Fin 2)).val < 1024 := (x (1 : Fin 2)).isLt
  obtain ⟨d, hd⟩ : ∃ d : Bool, (if d then 0 else 512) ≤ (x (1 : Fin 2)).val ∧ (x (1 : Fin 2)).val < (if d then 0 else 512) + 512 := by
    by_cases h : (x (1 : Fin 2)).val < 512
    · exact ⟨true, by simp only [if_true]; omega⟩
    · exact ⟨false, by simp only [Bool.false_eq_true, if_false]; omega⟩
  obtain ⟨j, hj⟩ := stripe_surj d c ⟨(x (0 : Fin 2)).val / 1024, by omega⟩
  refine ⟨(d, j), Finset.mem_univ _, Rect.mem_set_unit.mpr ?_⟩
  show ∀ a, offPiece d j c a ≤ (x a).val ∧ (x a).val < offPiece d j c a + S1024x512.size a
  rw [offPiece_eq, hj]
  intro a
  fin_cases a
  · show 1024 * ((x (0 : Fin 2)).val / 1024) ≤ (x (0 : Fin 2)).val ∧ (x (0 : Fin 2)).val < 1024 * ((x (0 : Fin 2)).val / 1024) + 1024
    omega
  · exact hd

/-! ## Taking apart and putting together -/

variable (m : (ℓ : Loc nD τ sig) → Buf (Elt F) ℓ) (c : Dev nD)

omit [FloatOps F] in
theorem any_squeeze {sp : Space} {s s' : Shape} (b : Memref sig .tc sp s .f32) (h : s.Squeezes s') (q : PosShare TreeShare) :
    (iprop(∃ X, ownsTc c b q X) : sProp 𝕄) ⊣⊢ iprop(∃ X, ownsTc c (b.squeeze s' h) q X) := by
  constructor
  · unfold ownsTc owns
    iintro ⟨%X, %f, -, H⟩
    iexists ((b.squeeze s' h).view.read (Elt F) f), f
    isplitr; · ipureintro; rfl
    rw [Memref.set_view_squeeze]
    iexact H
  · unfold ownsTc owns
    iintro ⟨%X, %f, -, H⟩
    iexists (b.view.read (Elt F) f), f
    isplitr; · ipureintro; rfl
    rw [← Memref.set_view_squeeze b h]
    iexact H

section Family
variable {sp : Space} {sh : Shape} (b : Memref sig .tc sp sh .f32) (q : PosShare TreeShare)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

theorem any_split : (iprop(∃ X, ownsTc c b q X) : sProp 𝕄) ⊢ bigSep Finset.univ fun t => iprop(∃ X, ownsTc c (b.slice (r t) (hr t)) q X) := by
  iintro ⟨%X, H⟩
  iapply ((owns_rects (c : Thread nD τ) b q r hr hd hcov X).trans (bigSep_mono fun t _ => show (_ : sProp 𝕄) ⊢ iprop(∃ X, ownsTc c (b.slice (r t) (hr t)) q X) from by
    iintro H; iexists _; iexact H))
  iexact H
theorem any_join [∀ e, Nonempty (Elt F e)] : (bigSep Finset.univ fun t => iprop(∃ X, ownsTc c (b.slice (r t) (hr t)) q X) : sProp 𝕄) ⊢ iprop(∃ X, ownsTc c b q X) :=
  (bigSep_mono fun t _ => (ownsSat_true (c : Thread nD τ) (b.slice (r t) (hr t)) q).2).trans
    ((ownsSat_of_rects (c : Thread nD τ) b q r hr hd hcov (fun _ _ => True)).trans (ownsSat_any (c : Thread nD τ) b q))
end Family

omit [FloatOps F] in
theorem fin2_eq (Φ : Fin 2 → sProp 𝕄) : bigSep Finset.univ Φ = iprop(Φ 0 ∗ Φ 1) := bigSep_univ_eq_bigSepL [0, 1] (by decide) (by decide) Φ
omit [FloatOps F] in
theorem fin3_eq (Φ : Fin 3 → sProp 𝕄) : bigSep Finset.univ Φ = iprop(Φ 0 ∗ Φ 1 ∗ Φ 2) := bigSep_univ_eq_bigSepL [0, 1, 2] (by decide) (by decide) Φ
omit [FloatOps F] in
theorem out_eq (Φ : Bool × Fin 4 → sProp 𝕄) : bigSep Finset.univ Φ
    = iprop(Φ (true, 0) ∗ Φ (true, 1) ∗ Φ (true, 2) ∗ Φ (true, 3) ∗ Φ (false, 0) ∗ Φ (false, 1) ∗ Φ (false, 2) ∗ Φ (false, 3)) :=
  bigSep_univ_eq_bigSepL [(true, 0), (true, 1), (true, 2), (true, 3), (false, 0), (false, 1), (false, 2), (false, 3)] (by decide) (by decide) Φ

theorem slots_split (d : Bool) : (iprop(∃ X, ownsTc c (commM d) fullShare X) : sProp 𝕄) ⊢ slots c d := by
  refine (any_split c (commM d) fullShare rSlot (fun _ _ => rfl) slot_disj slot_cov).trans ?_
  rw [fin2_eq]
  exact BIClass.sep_mono (any_squeeze c _ _ _).1 (any_squeeze c _ _ _).1
theorem slots_join (d : Bool) [∀ e, Nonempty (Elt F e)] : slots c d ⊢ (iprop(∃ X, ownsTc c (commM d) fullShare X) : sProp 𝕄) := by
  refine .trans ?_ (any_join c (commM d) fullShare rSlot (fun _ _ => rfl) slot_disj slot_cov)
  rw [fin2_eq]
  exact BIClass.sep_mono (any_squeeze c _ _ _).2 (any_squeeze c _ _ _).2
theorem ags_split (d : Bool) : (iprop(∃ X, ownsTc c (gathM d) fullShare X) : sProp 𝕄) ⊢ ags c d := by
  refine (any_split c (gathM d) fullShare rAg (fun _ _ => rfl) ag_disj ag_cov).trans ?_
  rw [fin3_eq]
  exact BIClass.sep_mono (any_squeeze c _ _ _).1 (BIClass.sep_mono (any_squeeze c _ _ _).1 (any_squeeze c _ _ _).1)
theorem ags_join (d : Bool) [∀ e, Nonempty (Elt F e)] : ags c d ⊢ (iprop(∃ X, ownsTc c (gathM d) fullShare X) : sProp 𝕄) := by
  refine .trans ?_ (any_join c (gathM d) fullShare rAg (fun _ _ => rfl) ag_disj ag_cov)
  rw [fin3_eq]
  exact BIClass.sep_mono (any_squeeze c _ _ _).2 (BIClass.sep_mono (any_squeeze c _ _ _).2 (any_squeeze c _ _ _).2)

/-- The two halves of a block together. -/
theorem any_whole {sp : Space} (b : Memref sig .tc sp S1024x512 .f32) : (iprop(anyAt c b fullShare.left ∗ anyAt c b fullShare.right) : sProp 𝕄) ⊢ anyAt c b fullShare := by
  unfold anyAt
  iintro ⟨⟨%X, Hl⟩, Hr⟩
  iexists X
  iapply (owns_rejoin (c : Thread nD τ) b fullShare (Φ := fun _ => True) X)
  isplitl [Hl]; · iexact Hl
  iapply (ownsSat_true (c : Thread nD τ) b fullShare.right).2
  iexact Hr

/-- The result as its eight pieces, and the pieces filled as the result. -/
theorem out_split : (iprop(∃ X, ownsTc c yM fullShare X) : sProp 𝕄) ⊢ iprop(Ps c true ∗ Ps c false) := by
  refine (any_split c yM fullShare (rOut c) (fun _ _ => rfl) (out_disj c) (out_cov c)).trans ?_
  rw [out_eq]
  unfold Ps anyAt
  iintro ⟨H0, H1, H2, H3, H4, H5, H6, H7⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7

/-- What the result holds at the end, piece by piece. -/
def OutIs (X : S4096x1024.Idx → Elt F .f32) : Prop := ∀ (d : Bool) (j : Fin 4), (fun y => X ((rPiece d j c).emb y)) = outV m d c j

theorem out_join [∀ e, Nonempty (Elt F e)] :
    (iprop((ownsTc c (piece true 0 c) fullShare (fin m true c) ∗ ownsTc c (piece true 1 c) fullShare (gath0 m true c)
      ∗ ownsTc c (piece true 2 c) fullShare (gath1 m true c) ∗ ownsTc c (piece true 3 c) fullShare (gath2 m true c))
      ∗ (ownsTc c (piece false 0 c) fullShare (fin m false c) ∗ ownsTc c (piece false 1 c) fullShare (gath0 m false c)
      ∗ ownsTc c (piece false 2 c) fullShare (gath1 m false c) ∗ ownsTc c (piece false 3 c) fullShare (gath2 m false c))) : sProp 𝕄)
      ⊢ iprop(∃ X, ⌜OutIs m c X⌝ ∗ ownsTc c yM fullShare X) := by
  have h := ownsSat_of_rects (Ix := Unit) (Name := ℕ) (U := UU) (Lvl := ℕ) (Val := Elt F) (c : Thread nD τ) yM fullShare (rOut c) (fun _ _ => rfl) (out_disj c) (out_cov c)
    (fun t X => X = outV m t.1 c t.2)
  have hp (d : Bool) (j : Fin 4) : ownsTc c (piece d j c) fullShare (outV m d c j)
      ⊢ (ownsSat (c : Thread nD τ) (yM.slice (rOut c (d, j)) (fun _ => rfl)) fullShare (fun X => X = outV m d c j) : sProp 𝕄) :=
    ownsSat_intro (c : Thread nD τ) (piece d j c) fullShare rfl
  rw [out_eq] at h
  iintro ⟨⟨H0, H1, H2, H3⟩, H4, H5, H6, H7⟩
  ihave H := h $$ [H0 H1 H2 H3 H4 H5 H6 H7]
  · isplitl [H0]; · iapply (hp true 0); iexact H0
    isplitl [H1]; · iapply (hp true 1); iexact H1
    isplitl [H2]; · iapply (hp true 2); iexact H2
    isplitl [H3]; · iapply (hp true 3); iexact H3
    isplitl [H4]; · iapply (hp false 0); iexact H4
    isplitl [H5]; · iapply (hp false 1); iexact H5
    isplitl [H6]; · iapply (hp false 2); iexact H6
    iapply (hp false 3); iexact H7
  ihave H := (ownsSat_elim (c : Thread nD τ) yM fullShare _) $$ H
  icases H with ⟨%X, %hX, H⟩
  iexists X
  isplitr
  · ipureintro; exact fun d j => hX (d, j)
  iexact H

/-- A read share of a block of the operand, the rest of the share kept. -/
theorem take {sp : Space} (b : Memref sig .tc sp S1024x512 .f32) (q : PosShare TreeShare) (f : Buf (Elt F) (b.view.loc (c : Thread nD τ))) :
    ((b.view.loc (c : Thread nD τ)) ↦{q} f : sProp 𝕄)
      ⊢ iprop((∃ q, ownsTc c b q (b.view.read (Elt F) f)) ∗ ((b.view.loc (c : Thread nD τ)) ↦{q.right} f)) := by
  iintro H
  ihave H := (pointsTo_share (PosShare.mem_left_op_right q)).1 $$ H
  icases H with ⟨Hl, Hr⟩
  isplitl [Hl]
  · iexists q.left
    iapply (owns_intro (c : Thread nD τ) b q.left f)
    ihave Hl := (pointsTo_split_subset (Finset.subset_univ b.view.set)).1 $$ Hl
    icases Hl with ⟨Hl, -⟩
    iexact Hl
  iexact Hr

theorem take_send (d : Bool) (q : PosShare TreeShare) :
    (((c : Thread nD τ).loc main_arg0) ↦{q} m ((c : Thread nD τ).loc main_arg0) : sProp 𝕄)
      ⊢ iprop((∃ q, ownsTc c (xsend d c) q (sendV m d c)) ∗ (((c : Thread nD τ).loc main_arg0) ↦{q.right} m ((c : Thread nD τ).loc main_arg0))) :=
  take c (xsend d c) q (m ((c : Thread nD τ).loc main_arg0))
theorem take_stage (d : Bool) (s : Fin 3) (q : PosShare TreeShare) :
    (((c : Thread nD τ).loc main_arg0) ↦{q} m ((c : Thread nD τ).loc main_arg0) : sProp 𝕄)
      ⊢ iprop((∃ q, ownsTc c (xstage d s c) q (stgV m d s c)) ∗ (((c : Thread nD τ).loc main_arg0) ↦{q.right} m ((c : Thread nD τ).loc main_arg0))) :=
  take c (xstage d s c) q (m ((c : Thread nD τ).loc main_arg0))

theorem take4 (d : Bool) (q : PosShare TreeShare) :
    (((c : Thread nD τ).loc main_arg0) ↦{q} m ((c : Thread nD τ).loc main_arg0) : sProp 𝕄)
      ⊢ iprop(Xs m c d ∗ (((c : Thread nD τ).loc main_arg0) ↦{q.right.right.right.right} m ((c : Thread nD τ).loc main_arg0))) := by
  unfold Xs
  iintro H
  ihave H := (take_send m c d q) $$ H
  icases H with ⟨H0, H⟩
  ihave H := (take_stage m c d 0 q.right) $$ H
  icases H with ⟨H1, H⟩
  ihave H := (take_stage m c d 1 q.right.right) $$ H
  icases H with ⟨H2, H⟩
  ihave H := (take_stage m c d 2 q.right.right.right) $$ H
  icases H with ⟨H3, H⟩
  isplitl [H0 H1 H2 H3]
  · isplitl [H0]; · iexact H0
    isplitl [H1]; · iexact H1
    isplitl [H2]; · iexact H2
    iexact H3
  iexact H

end Cert.KernelIdealRun
-- ==== Proof.KernelIdealRun.Launch.lean ====
/-
The launch: what a device is dealt covers what its program starts from, what the program ends with covers what a device hands
back, and so the whole machine runs to the end with the operand untouched, the result filled and every semaphore at rest.
-/
module

public import proofs.«01_k».proof.Proof.KernelIdealRun.Ghost
public import proofs.«01_k».proof.Proof.KernelIdealRun.Bufs

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev s₀ : MemSt nD τ sig (Elt F) := ⟨m, fun _ => 0, ρ⟩

/-! ## Buffers whole -/

omit [FloatOps F] in
theorem whole_any (c : Dev nD) (b : Ref sig .tc) :
    (iprop(∃ f : Buf (Elt F) ((c : Thread nD τ).loc b), ((c : Thread nD τ).loc b) ↦{fullShare} f) : sProp 𝕄)
      = iprop(∃ X, owns (c : Thread nD τ) (Memref.whole b) fullShare X) := by
  simp only [owns_whole]

/-- A direction's scratch buffers, whole, cover what it starts with of them; -/
theorem scratch_in (c : Dev nD) (d : Bool) :
    (iprop((∃ X, ownsTc c (commM d) fullShare X) ∗ (∃ X, ownsTc c (locM d) fullShare X) ∗ (∃ X, ownsTc c (gathM d) fullShare X)) : sProp 𝕄)
      ⊢ iprop(anyAt c (locM d) fullShare ∗ slots c d ∗ ags c d) := by
  iintro ⟨HC, HL, HG⟩
  isplitl [HL]; · unfold anyAt; iexact HL
  isplitl [HC]; · iapply (slots_split c d); iexact HC
  iapply (ags_split c d); iexact HG
/-- and what it ends with of them makes them whole again. -/
theorem scratch_out (c : Dev nD) (d : Bool) :
    iprop(anyAt c (locM d) fullShare ∗ anyAt c (slot d 0) fullShare.left ∗ anyAt c (slot d 0) fullShare.right ∗ anyAt c (slot d 1) fullShare
        ∗ anyAt c (ag d 0) fullShare.left ∗ anyAt c (ag d 0) fullShare.right ∗ anyAt c (ag d 1) fullShare.left ∗ anyAt c (ag d 1) fullShare.right
        ∗ anyAt c (ag d 2) fullShare.left ∗ anyAt c (ag d 2) fullShare.right)
      ⊢ (iprop((∃ X, ownsTc c (commM d) fullShare X) ∗ (∃ X, ownsTc c (locM d) fullShare X) ∗ (∃ X, ownsTc c (gathM d) fullShare X)) : sProp 𝕄) := by
  iintro ⟨HL, S0l, S0r, S1, A0l, A0r, A1l, A1r, A2l, A2r⟩
  isplitl [S0l S0r S1]
  · iapply (slots_join c d)
    isplitl [S0l S0r]
    · iapply (any_whole c (slot d 0)); isplitl [S0l]; · iexact S0l
      iexact S0r
    iexact S1
  isplitl [HL]; · unfold anyAt; iexact HL
  iapply (ags_join c d)
  isplitl [A0l A0r]
  · iapply (any_whole c (ag d 0)); isplitl [A0l]; · iexact A0l
    iexact A0r
  isplitl [A1l A1r]
  · iapply (any_whole c (ag d 1)); isplitl [A1l]; · iexact A1l
    iexact A1r
  iapply (any_whole c (ag d 2)); isplitl [A2l]; · iexact A2l
  iexact A2r

/-- The scratch buffers of both directions. -/
def scratch (c : Dev nD) : sProp 𝕄 :=
  iprop(((∃ X, ownsTc c (commM true) fullShare X) ∗ (∃ X, ownsTc c (locM true) fullShare X) ∗ (∃ X, ownsTc c (gathM true) fullShare X))
    ∗ ((∃ X, ownsTc c (commM false) fullShare X) ∗ (∃ X, ownsTc c (locM false) fullShare X) ∗ (∃ X, ownsTc c (gathM false) fullShare X)))

omit [FloatOps F] in
theorem scoped_in (c : Dev nD) :
    (Pipeline.scopedRest (Ix := Unit) (Name := ℕ) (U := UU) (Lvl := ℕ) (Val := Elt F) cfg0.spec c : sProp 𝕄) ⊢ scratch c := by
  rw [scopedRest0_eq]
  simp only [whole_any]
  unfold scratch
  iintro ⟨H0, H1, H2, H3, H4, H5⟩
  isplitl [H0 H2 H4]
  · isplitl [H0]; · iexact H0
    isplitl [H2]; · iexact H2
    iexact H4
  isplitl [H1]; · iexact H1
  isplitl [H3]; · iexact H3
  iexact H5
omit [FloatOps F] in
theorem scoped_out (c : Dev nD) :
    scratch c ⊢ (Pipeline.scopedRest (Ix := Unit) (Name := ℕ) (U := UU) (Lvl := ℕ) (Val := Elt F) cfg0.spec c : sProp 𝕄) := by
  rw [scopedRest0_eq]
  simp only [whole_any]
  unfold scratch
  iintro ⟨⟨H0, H2, H4⟩, H1, H3, H5⟩
  isplitl [H0]; · iexact H0
  isplitl [H1]; · iexact H1
  isplitl [H2]; · iexact H2
  isplitl [H3]; · iexact H3
  isplitl [H4]; · iexact H4
  iexact H5

/-! ## What a device starts from and ends with -/

/-- What it starts from, its scratch buffers aside; -/
def start (c : Dev nD) : sProp 𝕄 :=
  iprop(∃ K : Dev nD × Cl → ℕ, Env m K ∗ (Xs m c true ∗ Xs m c false) ∗ (Ps c true ∗ Ps c false) ∗ (Ts c true ∗ Ts c false ∗ Bs c)
    ∗ (Qs c true ∗ Qs c false ∗ Cs c true ∗ Cs c false ∗ crd c .bar 4 ∗ pos c .bar 0))
/-- its result, filled; -/
def filled (c : Dev nD) : sProp 𝕄 := iprop(∃ X, ⌜OutIs m c X⌝ ∗ ownsTc c yM fullShare X)

def Φ₀ (c : Dev nD) : sProp 𝕄 := iprop(start m c ∗ scratch c)
/-- and at the end its semaphores at rest, its result filled, its scratch buffers whole. -/
def Φ₁ (c : Dev nD) : sProp 𝕄 :=
  iprop((unscopedSems0 c ∗ Pipeline.ownSems0 (Ix := Unit) (Name := ℕ) (U := UU) (Lvl := ℕ) (Val := Elt F) (τ := τ) osem c) ∗ filled m c ∗ scratch c)

def O₀ (c : Dev nD) : CellTallies nD τ sig Unit := owedL (dues c)

def dats (_ : Fin 1) (c : Dev nD) : Dat τ (Elt F) Unit ℕ UU ℕ cfg0 c where
  A w := (s₀ m ρ).mem ((cfg0.win w).arr.view.loc (c : Thread nD τ))
  after w _ := Fin.elim0 (show Fin 0 from w)
  Φ t := match t with | ⟨0, _⟩ => Φ₀ m c | ⟨_ + 1, _⟩ => Φ₁ m c
  q _ := fullShare
  owed t := match t with | ⟨0, _⟩ => O₀ c | ⟨_ + 1, _⟩ => 0

theorem done_all (K : Dev nD × Cl → ℕ) (c : Dev nD) :
    iprop(Env m K ∗ bigSep Finset.univ fun k : Cl => pos (F := F) c k (rounds k))
      ⊢ |={Set.univ}=> (bigSep Finset.univ fun k : Cl => semVal (cell c k) 0 : sProp 𝕄) := by
  have hk (k : Cl) : iprop(Env m K ∗ pos (F := F) c k (rounds k)) ⊢ |={Set.univ}=> (semVal (cell c k) 0 : sProp 𝕄) := cell_done m K c k le_rfl
  refine (sep_mono_left (BI.bigSep_of_persistent (Finset.univ : Finset Cl) (Env m K))).trans ?_
  rw [← bigSep_sep']
  exact (bigSep_mono fun k _ => hk k).trans (bigSep_fupd _ _)

theorem post_done (K : Dev nD × Cl → ℕ) (c : Dev nD) :
    iprop(Env m K ∗ DirOut m c true ∗ DirOut m c false ∗ pos c .bar 1) ⊢ |={Set.univ}=> Φ₁ m c := by
  unfold DirOut
  iintro ⟨#HE, ⟨CT, BT, OT⟩, ⟨CF, BF, OF⟩, HB⟩
  icases CT with ⟨Tzs, Tzr0, Tzr1, Tzr2, Tas, Tar0, Tar1, Tar2, Tloc, Tout, Tfree⟩
  icases CF with ⟨Fzs, Fzr0, Fzr1, Fzr2, Fas, Far0, Far1, Far2, Floc, Fout, Ffree⟩
  ihave HP : (bigSep Finset.univ fun k : Cl => pos (F := F) c k (rounds k) : sProp 𝕄) $$ [Tzs Fzs Tzr0 Tzr1 Tzr2 Fzr0 Fzr1 Fzr2 Tas Fas Tar0 Tar1 Tar2 Far0 Far1 Far2 Tloc Floc Tout Fout Tfree Ffree HB]
  · rw [allCl_eq]
    unfold allCl
    simp only [chain_one, chain_cons, rounds]
    isplitl [Tzs]; · iexact Tzs
    isplitl [Fzs]; · iexact Fzs
    isplitl [Tzr0]; · iexact Tzr0
    isplitl [Tzr1]; · iexact Tzr1
    isplitl [Tzr2]; · iexact Tzr2
    isplitl [Fzr0]; · iexact Fzr0
    isplitl [Fzr1]; · iexact Fzr1
    isplitl [Fzr2]; · iexact Fzr2
    isplitl [Tas]; · iexact Tas
    isplitl [Fas]; · iexact Fas
    isplitl [Tar0]; · iexact Tar0
    isplitl [Tar1]; · iexact Tar1
    isplitl [Tar2]; · iexact Tar2
    isplitl [Far0]; · iexact Far0
    isplitl [Far1]; · iexact Far1
    isplitl [Far2]; · iexact Far2
    isplitl [Tloc]; · iexact Tloc
    isplitl [Floc]; · iexact Floc
    isplitl [Tout]; · iexact Tout
    isplitl [Fout]; · iexact Fout
    isplitl [Tfree]; · iexact Tfree
    isplitl [Ffree]; · iexact Ffree
    iexact HB
  imod (done_all m K c) $$ [HP] with HP
  · isplitr; · iexact HE
    iexact HP
  imodintro
  unfold Φ₁ filled scratch
  isplitl [HP]; · iapply (sems_eq' c); iexact HP
  isplitl [OT OF]
  · iapply (out_join m c)
    isplitl [OT]; · iexact OT
    iexact OF
  isplitl [BT]; · iapply (scratch_out c true); iexact BT
  iapply (scratch_out c false); iexact BF

theorem ret_bind (c : Dev nD) : prog (F := F) c = (prog c >>= fun _ => Prog.ret ⟨⟩) := (Prog.bind_pure _).symm

set_option maxRecDepth 8000 in
theorem body_obligation (c : Dev nD) : BodyObligation (dats (F := F) m ρ 0 c) (defs₀ (F := F)) 𝒱₀ () Set.univ := fun t => by
  have ht : t = t0_0 := fin_N0 t
  subst ht
  rw [show (Finset.univ : Finset (Fin cfg0.W)) = ∅ from rfl]
  simp only [bigSep_empty]
  show iprop(Φ₀ m c ∗ (dats m ρ 0 c).owesAt () t0_0.castSucc ∗ emp) ⊢ wp frame (wpE (defs₀ (F := F)) 𝒱₀ c none) Set.univ
    (cc0_body (F := F) xM (Memref.isWhole_whole _) yM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12)
    (fun _ => iprop(Φ₁ m c ∗ (dats m ρ 0 c).owesAt () t0_0.succ ∗ emp))
  rw [body_eq, wp_deviceId, ret_bind]
  unfold Φ₀ start
  iintro ⟨⟨⟨%K, #HE, ⟨Xt, Xf⟩, ⟨Pt, Pf⟩, ⟨Tt, Tf, HB⟩, Qt, Qf, Ct, Cf, Hb⟩, HS⟩, Ho, Hw⟩
  unfold scratch
  icases HS with ⟨St, Sf⟩
  ihave St := (scratch_in c true) $$ St
  ihave Sf := (scratch_in c false) $$ Sf
  unfold Dat.owesAt Pipeline.owesWithin
  icases Ho with ⟨%W, %hW, HO⟩
  rw [show (dats m ρ 0 c).owed t0_0.castSucc = owedL (dues c) from rfl]
  iapply (prog_wp m K c) $$ [Xt Xf Pt Pf Tt Tf HB Qt Qf Ct Cf Hb St Sf HO]
  · isplitr; · iexact HE
    unfold Pre DirIn
    isplitl [Xt Pt Tt Qt Ct St]
    · isplitl [Xt]; · iexact Xt
      isplitl [Pt]; · iexact Pt
      isplitl [Tt]; · iexact Tt
      isplitl [Qt]; · iexact Qt
      isplitl [Ct]; · iexact Ct
      iexact St
    isplitl [Xf Pf Tf Qf Cf Sf]
    · isplitl [Xf]; · iexact Xf
      isplitl [Pf]; · iexact Pf
      isplitl [Tf]; · iexact Tf
      isplitl [Qf]; · iexact Qf
      isplitl [Cf]; · iexact Cf
      iexact Sf
    isplitl [HB]; · iexact HB
    isplitl [Hb]; · iexact Hb
    unfold Ow; iexists W; iexact HO
  unfold Post
  iintro ⟨Dt, Df, Hp, HO⟩
  unfold WP
  rw [wp_ret]
  imod (post_done m K c) $$ [Dt Df Hp] with HΦ
  · isplitr; · iexact HE
    isplitl [Dt]; · iexact Dt
    isplitl [Df]; · iexact Df
    iexact Hp
  imodintro
  isplitl [HΦ]; · iexact HΦ
  isplitl [HO]
  · unfold Ow
    icases HO with ⟨%W', HO⟩
    iexists W'
    isplitr; · ipureintro; exact fun _ _ => Or.inl trivial
    iexact HO
  iexact Hw

/-! ## The launch -/

theorem share_eq (c : Dev nD) (w : Fin cfg0.W) : (dats m ρ 0 c).share w = fullShare := by unfold Dat.share; split <;> rfl

theorem waits (c : Dev nD) : (levAts L lv : sProp 𝕄) ⊢ Pipeline.cellsWaits cfgs (dats m ρ) () 0 c :=
  Pipeline.cellsWaits_intro cfgs (dats m ρ) () 0 c fun w => Fin.elim0 (show Fin 0 from w)

/-- What is left of the operand with the launch. -/
def kept (c : Dev nD) : sProp 𝕄 := ((c : Thread nD τ).loc main_arg0) ↦{fullShare.left} m ((c : Thread nD τ).loc main_arg0)

theorem start_intro (c : Dev nD) :
    iprop(Pipeline.unscopedRestP Pipeline.Prefetch.none cfg0.spec c (fun b => m ((c : Thread nD τ).loc b)) ∗ levAts L lv ∗ Pipeline.launchCred O₀ c
        ∗ prngReg c (ρ c) ∗ G' m c)
      ⊢ |={Set.univ}=> (iprop(start m c ∗ kept m c) : sProp 𝕄) := by
  rw [Pipeline.unscopedRestP_none, unscopedRest0_eq c]
  unfold G' kept
  iintro ⟨⟨Hx, Hy⟩, #HL, HC, -, ⟨%K, #HI, #HR, Hat, Htok⟩⟩
  ihave #HE : Env m K $$ []
  · unfold Env
    isplitr; · iexact HI
    isplitr; · iexact HR
    iexact HL
  ihave Hx := (pointsTo_share (PosShare.mem_left_op_right fullShare)).1 $$ Hx
  icases Hx with ⟨Hk, Hx⟩
  ihave Hx := (take4 m c true fullShare.right) $$ Hx
  icases Hx with ⟨Xt, Hx⟩
  ihave Hx := (take4 m c false _) $$ Hx
  icases Hx with ⟨Xf, -⟩
  ihave Hy : (iprop(∃ X, owns (c : Thread nD τ) (Memref.whole main_v1) fullShare X) : sProp 𝕄) $$ [Hy]
  · rw [← whole_any]; iexists _; iexact Hy
  ihave HP := (out_split c) $$ Hy
  ihave HT := (toks_split c) $$ Htok
  ihave HQ := (creds_split m K c) $$ [HC Hat]
  · isplitr; · iexact HE
    isplitl [HC]; · iexact HC
    iexact Hat
  imodintro
  isplitr [Hk]
  · unfold start
    iexists K
    isplitr; · iexact HE
    isplitl [Xt Xf]
    · isplitl [Xt]; · iexact Xt
      iexact Xf
    isplitl [HP]; · iexact HP
    isplitl [HT]; · iexact HT
    iexact HQ
  iexact Hk

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  show _ ⊢ Φ₀ m c
  unfold Φ₀
  iintro ⟨HS, -, HR⟩
  isplitl [HS]; · iexact HS
  iapply (scoped_in c); iexact HR

/-- What is read at the end. -/
def held (c : Dev nD) : sProp 𝕄 := iprop(unscopedSems0 c ∗ filled m c)

theorem phi1_exit (c : Dev nD) :
    (dats m ρ 0 c).Φ (Fin.last cfg0.N) ⊢ iprop(held m c ∗ Pipeline.ownSems0 osem c ∗ Pipeline.scopedRest cfg0.spec c) := by
  show Φ₁ m c ⊢ _
  unfold Φ₁ held
  iintro ⟨⟨HU, HO⟩, HF, HS⟩
  isplitl [HU HF]
  · isplitl [HU]; · iexact HU
    iexact HF
  isplitl [HO]; · iexact HO
  iapply (scoped_out c); iexact HS

def Fine (c : Dev nD) (s : MemSt nD τ sig (Elt F)) : Prop :=
  s.mem ((c : Thread nD τ).loc main_arg0) = m ((c : Thread nD τ).loc main_arg0) ∧ OutIs m c (s.mem ((c : Thread nD τ).loc main_v1))
    ∧ ∀ sm : SemLoc sig, sm.isScoped .tc = false → s.sem ((c : Thread nD τ), sm) = 0

theorem read_one (ℓ : Loc nD τ sig) (q : PosShare TreeShare) (f : Buf (Elt F) ℓ) (s' : Phys nD τ sig (Elt F)) :
    iprop((ℓ ↦{q} f : sProp 𝕄) ∗ SI s') ⊢ iprop(⌜s'.mem.mem ℓ = f⌝ ∗ SI s') := by
  have h := pointsTo_read_all' (Ix := Unit) (Name := ℕ) (U := UU) (Lvl := ℕ) ({()} : Finset Unit) (fun _ => ℓ) (fun _ => f) s' (fun _ => q)
  rw [bigSep_singleton] at h
  refine h.trans ?_
  iintro ⟨%h, H⟩
  isplitr; · ipureintro; exact h () (Finset.mem_singleton_self _)
  iexact H

theorem read_end (c : Dev nD) (s' : Phys nD τ sig (Elt F)) :
    iprop(held m c ∗ kept m c ∗ SI s') ⊢ |={Set.univ}=> (iprop(⌜Fine m c s'.mem⌝ ∗ SI s') : sProp 𝕄) := by
  unfold held kept filled
  iintro ⟨⟨HU, %X, %hX, HY⟩, HK, HSI⟩
  ihave HY := (Entails.of_eq (owns_whole (c : Thread nD τ) main_v1 fullShare X)) $$ HY
  ihave ⟨%h1, HSI⟩ := (read_one _ _ _ s') $$ [HK HSI]
  · isplitl [HK]; · iexact HK
    iexact HSI
  ihave ⟨%h2, HSI⟩ := (read_one _ _ _ s') $$ [HY HSI]
  · isplitl [HY]; · iexact HY
    iexact HSI
  imod (Pipeline.unscopedSems0_read (X := unscopedSems0 c) (c := c) fupd_intro s') $$ [HU HSI] with ⟨%h3, HSI⟩
  · isplitl [HU]; · iexact HU
    iexact HSI
  imodintro
  isplitr
  · ipureintro; exact ⟨h1, by rw [h2]; exact hX, h3⟩
  iexact HSI

set_option maxRecDepth 20000 in
/-- The whole machine runs to the end, and then every device's operand is untouched, its result filled, and every semaphore
    at rest. -/
theorem run_main : θ_run defs (onTc (τ := τ) (main (F := F))) (s₀ m ρ) (fun r =>
    (∀ c : Dev nD, r.2.mem ((c : Thread nD τ).loc main_arg0) = m ((c : Thread nD τ).loc main_arg0) ∧ OutIs m c (r.2.mem ((c : Thread nD τ).loc main_v1)))
      ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => Fin.elim0 (show Fin 0 from w)) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := held m) (Z := kept m)
    (hX := start_intro m ρ) (hin := phi0_intro m ρ) (hout := phi1_exit m ρ)
    (QY := Fine m)
    (hY := read_end m)
    (hQ := fun s h hs => ⟨fun c => ⟨(h c).2.2.1, (h c).2.2.2.1⟩, sem_eq_zero hs fun c => (h c).2.2.2.2⟩)

end Cert.KernelIdealRun
-- ==== Proof.KernelIdealRun.Value.lean ====
/-
What the result holds over the extended reals: at every element, the sum of the four z blocks of the operand there. Each device's
piece is followed back along the z ring to the four blocks added into it, and along the xy ring to the device that added them.
-/
module

public import proofs.«01_k».proof.Proof.KernelIdealRun.Bufs
public import proofs.«01_k».proof.Proof.Gen.ReferenceIdeal
public import Idealize.ShloMosaic.Lib.IdealHost
public import Idealize.ShloMosaic.Lib.ValueLayout
public import Idealize.ShloMosaic.Lib.Pointwise
public import Idealize.ShloMosaic.Lib.Layout

@[expose] public section

noncomputable section

namespace Cert.KernelIdealRun

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-- The whole operand, the whole result. -/
abbrev TX : Shape := ⟨3, ![4, 4096, 4096]⟩
abbrev TY : Shape := ⟨2, ![4096, 4096]⟩

/-- The whole operand read at natural coordinates. -/
def at3 (v : TX.Idx → EReal) (z r k : ℕ) : EReal :=
  if h : z < 4 ∧ r < 4096 ∧ k < 4096 then v (ix3 ⟨z, h.1⟩ ⟨r, h.2.1⟩ ⟨k, h.2.2⟩) else 0

theorem at3_eq (v : TX.Idx → EReal) (i : TX.Idx) : v i = at3 v (i 0).val (i 1).val (i 2).val := by
  have h0 : (i 0).val < 4 := (i 0).isLt
  have h1 : (i 1).val < 4096 := (i 1).isLt
  have h2 : (i 2).val < 4096 := (i 2).isLt
  unfold at3
  rw [dif_pos ⟨h0, h1, h2⟩]
  congr 1
  funext a
  match a with
  | ⟨0, _⟩ => rfl
  | ⟨1, _⟩ => rfl
  | ⟨2, _⟩ => rfl

/-- The sum of the four z blocks at a row and a column. -/
def tot (v : TX.Idx → EReal) (r k : ℕ) : EReal := ∑ z : Fin 4, at3 v z.val r k

/-! ## Where the program reads -/

/-- The column block a direction's first send and its staging of step `s` take. -/
def sendCol (d : Bool) (c : Dev nD) : ℕ := if d then (c.val + 3) % 4 else (c.val + 1) % 4
def stageCol (d : Bool) (s : Fin 3) (c : Dev nD) : ℕ := if d then (c.val + 6 - s.val) % 4 else (c.val + s.val + 2) % 4
def half (d : Bool) : ℕ := if d then 0 else 512

theorem offSend_eq (d : Bool) (c : Dev nD) : offSend d c = ![0, 1024 * (ringPos (plane c)).val, 1024 * sendCol d c + half d] := by
  revert d c; decide +kernel
theorem offStage_eq (d : Bool) (s : Fin 3) (c : Dev nD) : offStage d s c = ![0, 1024 * (ringPos (plane c)).val, 1024 * stageCol d s c + half d] := by
  revert d s c; decide +kernel

variable (m : (ℓ : Loc nD τ sig) → Buf (Elt Ideal) ℓ) (v : TX.Idx → EReal)

/-- Every device's operand is its z block of the whole. -/
def Cut : Prop := ∀ c : Dev nD, m ((c : Thread nD τ).loc main_arg0)
  = Layout.blockN ⟨3, ![1, 4096, 4096]⟩ TX (Layout.meshBlock [2, 2, 4] ![[2], [], []] c) v

variable {m v} (hm : Cut m v)
include hm

theorem arg_at (c : Dev nD) (i : S1x4096x4096.Idx) :
    (show S1x4096x4096.Idx → EReal from m ((c : Thread nD τ).loc main_arg0)) i = at3 v (c.val % 4) (i 1).val (i 2).val := by
  rw [hm c]
  show Layout.blockN ⟨3, ![1, 4096, 4096]⟩ TX _ v _ i = _
  rw [Layout.blockN_apply, at3_eq v]
  have h0 : (i 0).val = 0 := Nat.lt_one_iff.mp (i 0).isLt
  congr 1
  · show (c.val / 1 % 4 * 1 + 0) * 1 + (i 0).val = c.val % 4
    rw [h0]; omega
  · show 0 * 4096 + (i 1).val = (i 1).val
    omega
  · show 0 * 4096 + (i 2).val = (i 2).val
    omega

theorem window_at (c : Dev nD) (off : Fin 3 → ℕ) (inb : ∀ a, off a + S1x1024x512.size a ≤ S1x4096x4096.size a) (R K : ℕ) (ho : off = ![0, R, K])
    (y : S1024x512.Idx) :
    ((xM.slice (Rect.unit (s := S1x4096x4096) off S1x1024x512.size inb) (fun _ => rfl)).squeeze S1024x512
      squeezes_S1x1024x512_S1024x512).view.read (Elt Ideal) (m ((c : Thread nD τ).loc main_arg0)) y
      = at3 v (c.val % 4) (R + (y 0).val) (K + (y 1).val) := by
  subst ho
  have hy : y = ix2 (y 0) (y 1) := by
    funext a
    match a with
    | ⟨0, _⟩ => rfl
    | ⟨1, _⟩ => rfl
  have h1 : ((xM.slice (Rect.unit (s := S1x4096x4096) ![0, R, K] S1x1024x512.size inb) (fun _ => rfl)).squeeze S1024x512
      squeezes_S1x1024x512_S1024x512).view.read (Elt Ideal) (m ((c : Thread nD τ).loc main_arg0)) y
      = (show S1x4096x4096.Idx → EReal from m ((c : Thread nD τ).loc main_arg0)) ((Rect.unit (s := S1x4096x4096) ![0, R, K] S1x1024x512.size inb).emb
          (Shape.reshapeEquiv squeezes_S1x1024x512_S1024x512.numel_eq y)) := rfl
  rw [h1, arg_at hm]
  have h2 : Shape.reshapeEquiv squeezes_S1x1024x512_S1024x512.numel_eq y = ix3 (⟨0, Nat.one_pos⟩ : Fin 1) (y 0) (y 1) := by
    conv_lhs => rw [hy]
    exact ValueIdx.reshapeEquiv_ix2_1ab _ _ _
  rw [h2]
  congr 1
  · show R + 1 * (y 0).val = _; omega
  · show K + 1 * (y 1).val = _; omega

theorem sendV_at (d : Bool) (c : Dev nD) (y : S1024x512.Idx) :
    sendV m d c y = at3 v (c.val % 4) (1024 * (ringPos (plane c)).val + (y 0).val) (1024 * sendCol d c + half d + (y 1).val) :=
  window_at hm c _ (inb_send d c) _ _ (offSend_eq d c) y
theorem stgV_at (d : Bool) (s : Fin 3) (c : Dev nD) (y : S1024x512.Idx) :
    stgV m d s c y = at3 v (c.val % 4) (1024 * (ringPos (plane c)).val + (y 0).val) (1024 * stageCol d s c + half d + (y 1).val) :=
  window_at hm c _ (inb_stage d s c) _ _ (offStage_eq d s c) y

/-! ## A finished block -/

omit hm in
theorem around : ∀ (d : Bool) (c : Dev nD),
    (plane (zn (!d) c) = plane c ∧ plane (zn (!d) (zn (!d) c)) = plane c ∧ plane (zn (!d) (zn (!d) (zn (!d) c))) = plane c)
    ∧ (sendCol d (zn (!d) (zn (!d) (zn (!d) c))) = c.val % 4 ∧ stageCol d 0 (zn (!d) (zn (!d) c)) = c.val % 4
      ∧ stageCol d 1 (zn (!d) c) = c.val % 4 ∧ stageCol d 2 c = c.val % 4)
    ∧ ((zn (!d) c).val % 4 = (if d then c.val + 3 else c.val + 1) % 4 ∧ (zn (!d) (zn (!d) c)).val % 4 = (c.val + 2) % 4
      ∧ (zn (!d) (zn (!d) (zn (!d) c))).val % 4 = (if d then c.val + 1 else c.val + 3) % 4) := by decide +kernel

omit hm in
/-- Four terms in the order a ring adds them are the sum over the ring. -/
theorem ring_sum (f : ℕ → EReal) (d : Bool) (n : ℕ) :
    ((f ((if d then n + 1 else n + 3) % 4) + f ((n + 2) % 4)) + f ((if d then n + 3 else n + 1) % 4)) + f (n % 4) = ∑ z : Fin 4, f z.val := by
  have hn : n % 4 = 0 ∨ n % 4 = 1 ∨ n % 4 = 2 ∨ n % 4 = 3 := by omega
  rw [Fin.sum_univ_four]
  show _ = f 0 + f 1 + f 2 + f 3
  have e (a r b : ℕ) (h : n % 4 = r) (hb : (r + a) % 4 = b) : (n + a) % 4 = b := by omega
  rcases hn with h | h | h | h <;> cases d <;> simp only [if_true, if_false, Bool.false_eq_true]
  all_goals rw [h, e 1 _ _ h rfl, e 2 _ _ h rfl, e 3 _ _ h rfl]
  all_goals (dsimp only [Nat.reduceAdd, Nat.reduceMod]; ac_rfl)

theorem fin_at (d : Bool) (c : Dev nD) (y : S1024x512.Idx) :
    fin m d c y = tot v (1024 * (ringPos (plane c)).val + (y 0).val) (1024 * (c.val % 4) + half d + (y 1).val) := by
  obtain ⟨⟨p1, p2, p3⟩, ⟨k3, k2, k1, k0⟩, z1, z2, z3⟩ := around d c
  have h : fin m d c y = ((sendV m d (zn (!d) (zn (!d) (zn (!d) c))) y + stgV m d 0 (zn (!d) (zn (!d) c)) y) + stgV m d 1 (zn (!d) c) y)
      + stgV m d 2 c y := rfl
  rw [h, sendV_at hm, stgV_at hm, stgV_at hm, stgV_at hm, p1, p2, p3, k0, k1, k2, k3, z1, z2, z3]
  exact ring_sum (fun z => at3 v z _ _) d c.val

omit hm in
theorem beside : ∀ (d : Bool) (c : Dev nD),
    (ringPos (plane c) = stripe d 0 c ∧ ringPos (plane (an (!d) c)) = stripe d 1 c ∧ ringPos (plane (an (!d) (an (!d) c))) = stripe d 2 c
      ∧ ringPos (plane (an (!d) (an (!d) (an (!d) c)))) = stripe d 3 c)
    ∧ (an (!d) c).val % 4 = c.val % 4 ∧ (an (!d) (an (!d) c)).val % 4 = c.val % 4 ∧ (an (!d) (an (!d) (an (!d) c))).val % 4 = c.val % 4 := by
  decide +kernel

theorem outV_at (d : Bool) (j : Fin 4) (c : Dev nD) (y : S1024x512.Idx) :
    outV m d c j y = tot v (1024 * (stripe d j c).val + (y 0).val) (1024 * (c.val % 4) + half d + (y 1).val) := by
  obtain ⟨⟨p0, p1, p2, p3⟩, z1, z2, z3⟩ := beside d c
  match j with
  | 0 => show fin m d c y = _; rw [fin_at hm, p0]
  | 1 => show fin m d (an (!d) c) y = _; rw [fin_at hm, p1, z1]
  | 2 => show fin m d (an (!d) (an (!d) c)) y = _; rw [fin_at hm, p2, z2]
  | 3 => show fin m d (an (!d) (an (!d) (an (!d) c))) y = _; rw [fin_at hm, p3, z3]

/-! ## The whole result -/

/-- The sum over the first axis, as the reference takes it. -/
def refV (v : TX.Idx → EReal) : TY.Idx → EReal :=
  Host.reduceAdd (F := Ideal) (φ := .f32) v (constant Cert.ReferenceIdeal.S_ .f32 0x00000000#32)
    Cert.ReferenceIdeal.Gen.reducesTo_S4x4096x4096_S4096x4096_d0 Cert.ReferenceIdeal.Gen.h_S_

omit hm in
theorem refV_at (i : TY.Idx) : refV v i = tot v (i 0).val (i 1).val := by
  unfold refV
  rw [ValueIdx.hostReduceAdd_apply]
  rw [Ideal.hostReduceAdd_r3_a0]
  show Ideal.ofBits .f32 0x00000000#32 + _ = _
  rw [Ideal.ofBits_zero_f32, zero_add]
  unfold tot
  refine Finset.sum_congr rfl fun z _ => ?_
  rw [at3_eq v]
  rfl

omit hm in
theorem block_at (c : Dev nD) (i : S4096x1024.Idx) :
    (show S4096x1024.Idx → EReal from Layout.blockN ⟨2, ![4096, 1024]⟩ TY (Layout.meshBlock [2, 2, 4] ![[], [2]] c) (refV v)) i = tot v (i 0).val (1024 * (c.val % 4) + (i 1).val) := by
  show refV v _ = _
  rw [refV_at]
  congr 1
  · show 0 * 4096 + (i 0).val = (i 0).val
    omega
  · show (c.val / 1 % 4 * 1 + 0) * 1024 + (i 1).val = _
    omega

/-- A result holding the pieces the program fills it with is the device's column block of the reference's sum. -/
theorem out_is (c : Dev nD) (X : S4096x1024.Idx → Elt Ideal .f32) (hX : OutIs m c X) :
    X = Layout.blockN ⟨2, ![4096, 1024]⟩ TY (Layout.meshBlock [2, 2, 4] ![[], [2]] c) (refV v) := by
  funext i
  have hi : i ∈ (Finset.univ : Finset (Bool × Fin 4)).biUnion (fun t => (rOut c t).set) := by rw [out_cov]; exact Finset.mem_univ i
  obtain ⟨⟨d, j⟩, -, hi⟩ := Finset.mem_biUnion.mp hi
  obtain ⟨y, rfl⟩ := (rOut c (d, j)).exists_idx_of_mem hi
  have h : X ((rPiece d j c).emb y) = outV m d c j y := congrFun (hX d j) y
  refine h.trans ?_
  rw [outV_at hm]
  refine .trans ?_ (block_at c _).symm
  have e0 : (((rOut c (d, j)).idx y) 0).val = 1024 * (stripe d j c).val + (y 0).val := by
    show offPiece d j c 0 + 1 * (y 0).val = _
    rw [offPiece_eq]
    show 1024 * (stripe d j c).val + 1 * (y 0).val = _
    omega
  have e1 : (((rOut c (d, j)).idx y) 1).val = half d + (y 1).val := by
    show offPiece d j c 1 + 1 * (y 1).val = _
    rw [offPiece_eq]
    show half d + 1 * (y 1).val = _
    omega
  rw [e0, e1, Nat.add_assoc]

end Cert.KernelIdealRun
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun.Launch
public import proofs.«01_k».proof.Proof.KernelIdealRun.Launch
public import proofs.«01_k».proof.Proof.KernelIdealRun.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs to the end from any memory, with its operand untouched and every semaphore at rest; -/
theorem frame_p : Cert.quiescent_Kernel := by
  intro m ρ _
  exact (θ_run Cert.Kernel.defs _ _).mono (fun _ h => ⟨fun c => (h.1 c).1, h.2⟩) (Cert.KernelRun.run_main (F := Bits) m ρ)

/-- so does its text over the extended reals; -/
theorem frame_pi : Cert.quiescent_KernelIdeal := by
  intro m ρ _
  exact (θ_run Cert.KernelIdeal.defs _ _).mono (fun _ h => ⟨fun c => (h.1 c).1, h.2⟩) (Cert.KernelIdealRun.run_main (F := Ideal) m ρ)

/-- and so does the reference, which has no semaphore. -/
theorem frame_ri : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- Over the extended reals every device's result is its column block of the reference's sum. -/
theorem value : Cert.algebraic_KernelIdeal_ReferenceIdeal := by
  intro m ρ m' ρ' _ hm
  refine ⟨Cert.KernelIdealRun.refV (m' (((0 : Dev Cert.ReferenceIdeal.nD).tc : Thread Cert.ReferenceIdeal.nD Cert.ReferenceIdeal.τ).loc Cert.ReferenceIdeal.main_arg0)), ?_, ?_⟩
  · exact (θ_run Cert.KernelIdeal.defs _ _).mono
      (fun _ h c => ⟨Cert.KernelIdealRun.out_is hm c _ (h.1 c).2, (h.1 c).1⟩) (Cert.KernelIdealRun.run_main (F := Ideal) m ρ)
  · exact (θ_run Cert.ReferenceIdeal.defs _ _).mono (fun _ h => h 0) (Cert.ReferenceIdeal.Value.run (F := Ideal) m' ρ')

theorem claim : Cert.Claim := ⟨Cert.Kernel.Gen.facts, Cert.KernelIdeal.Gen.facts, Cert.ReferenceIdeal.Gen.facts,
  frame_p, frame_pi, frame_ri, trivial, value⟩

end Cert.Proof

end
